-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x [hPre_finite_x : Cert.Pre_finite_x.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x [hPre_finite_x : Cert.Pre_finite_x.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_x [hKernelIdeal : Cert.KernelIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_x [hReferenceIdeal : Cert.ReferenceIdeal.Facts] [hPre_finite_x : Cert.Pre_finite_x.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .bf16 0xF14A#16 ⊥

def algebraic_KernelIdeal_ReferenceIdeal_pre_finite_x [hKernelIdeal : Cert.KernelIdeal.Facts] [hReferenceIdeal : Cert.ReferenceIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v242) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_x : Cert.Pre_finite_x.Facts),
    quiescent_Kernel (hKernel := hKernel)
    ∧ quiescent_KernelIdeal (hKernelIdeal := hKernelIdeal)
    ∧ quiescent_KernelIdeal_pre_finite_x (hKernelIdeal := hKernelIdeal) (hPre_finite_x := hPre_finite_x)
    ∧ quiescent_ReferenceIdeal (hReferenceIdeal := hReferenceIdeal)
    ∧ quiescent_ReferenceIdeal_pre_finite_x (hReferenceIdeal := hReferenceIdeal) (hPre_finite_x := hPre_finite_x)
    ∧ preserves_Kernel_KernelIdeal
    ∧ algebraic_KernelIdeal_ReferenceIdeal_pre_finite_x (hKernelIdeal := hKernelIdeal) (hReferenceIdeal := hReferenceIdeal) (hPre_finite_x := hPre_finite_x)
-- ==== Pre_finite_x.lean ====
abbrev S100000x128 : Shape := ⟨2, ![100000, 128]⟩
abbrev S100000 : Shape := ⟨1, ![100000]⟩
abbrev S512x256 : Shape := ⟨2, ![512, 256]⟩
abbrev S512x128 : Shape := ⟨2, ![512, 128]⟩
abbrev S512 : Shape := ⟨1, ![512]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel

variable [Facts]

def fn {F : FTy → Type} [FloatOps F] (main_arg0 : FVec F S100000x128 .f32) (main_arg1 : IVec S100000 32) (main_arg2 : FVec F S512x256 .f32) (main_arg3 : FVec F S512x128 .f32) (main_arg4 : FVec F S512 .f32) (main_arg5 : FVec F S512 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  main_v3
-- ==== Kernel.lean ====
abbrev S100000x128 : Shape := ⟨2, ![100000, 128]⟩
abbrev S100000 : Shape := ⟨1, ![100000]⟩
abbrev S512x256 : Shape := ⟨2, ![512, 256]⟩
abbrev S512x128 : Shape := ⟨2, ![512, 128]⟩
abbrev S512 : Shape := ⟨1, ![512]⟩
abbrev S5x2x10000 : Shape := ⟨3, ![5, 2, 10000]⟩
abbrev S1x512 : Shape := ⟨2, ![1, 512]⟩
abbrev S256x512 : Shape := ⟨2, ![256, 512]⟩
abbrev S128x512 : Shape := ⟨2, ![128, 512]⟩
abbrev S64x256 : Shape := ⟨2, ![64, 256]⟩
abbrev S20000x128 : Shape := ⟨2, ![20000, 128]⟩
abbrev S1x2x10000 : Shape := ⟨3, ![1, 2, 10000]⟩
abbrev S64x128 : Shape := ⟨2, ![64, 128]⟩
abbrev S64x1 : Shape := ⟨2, ![64, 1]⟩
abbrev S64x512 : Shape := ⟨2, ![64, 512]⟩
abbrev S10000x128 : Shape := ⟨2, ![10000, 128]⟩
abbrev S64x10000 : Shape := ⟨2, ![64, 10000]⟩
abbrev S1x1x10000 : Shape := ⟨3, ![1, 1, 10000]⟩
abbrev S1x10000 : Shape := ⟨2, ![1, 10000]⟩
abbrev S64 : Shape := ⟨1, ![64]⟩
abbrev S10000x8 : Shape := ⟨2, ![10000, 8]⟩
abbrev S64x8 : Shape := ⟨2, ![64, 8]⟩

abbrev nBuf : Space → Nat
  | .hbm => 13
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S512x256, .f32⟩
  | .hbm, ⟨3, _⟩ => ⟨S512x128, .f32⟩
  | .hbm, ⟨4, _⟩ => ⟨S512, .f32⟩
  | .hbm, ⟨5, _⟩ => ⟨S512, .f32⟩
  | .hbm, ⟨6, _⟩ => ⟨S100000, .bf16⟩
  | .hbm, ⟨7, _⟩ => ⟨S5x2x10000, .bf16⟩
  | .hbm, ⟨8, _⟩ => ⟨S512, .f32⟩
  | .hbm, ⟨9, _⟩ => ⟨S1x512, .f32⟩
  | .hbm, ⟨10, _⟩ => ⟨S256x512, .f32⟩
  | .hbm, ⟨11, _⟩ => ⟨S128x512, .f32⟩
  | .hbm, ⟨12, _⟩ => ⟨S64x256, .f32⟩
  | .local _ .vmem, ⟨0, _⟩ => ⟨S20000x128, .f32⟩
  | .local _ .vmem, ⟨1, _⟩ => ⟨S20000x128, .f32⟩
  | .local _ .vmem, ⟨2, _⟩ => ⟨S1x2x10000, .bf16⟩
  | .local _ .vmem, ⟨3, _⟩ => ⟨S1x2x10000, .bf16⟩
  | .local _ .vmem, ⟨4, _⟩ => ⟨S256x512, .f32⟩
  | .local _ .vmem, ⟨5, _⟩ => ⟨S128x512, .f32⟩
  | .local _ .vmem, ⟨6, _⟩ => ⟨S1x512, .f32⟩
  | .local _ .vmem, ⟨7, _⟩ => ⟨S64x256, .f32⟩
  | .local _ .vmem, ⟨8, _⟩ => ⟨S64x128, .f32⟩
  | .local _ .vmem, ⟨9, _⟩ => ⟨S64x128, .f32⟩
  | .local _ .vmem, ⟨10, _⟩ => ⟨S64x256, .f32⟩
  | .local _ .vmem, ⟨11, _⟩ => ⟨S64x1, .f32⟩
  | .local _ .vmem, ⟨12, _⟩ => ⟨S64x1, .f32⟩
  | .local _ .vmem, ⟨13, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![3, 5], ![false, false]⟩

def k0_cond4 (i : grid0.Coords) : BitVec 1 :=
  let arg0 : BitVec 32 := BitVec.ofNat 32 (i 0).val
  let c2_i32 : BitVec 32 := 2#32
  let v76 : BitVec 1 := Scalar.cmpi .eq arg0 c2_i32
  let arg1 : BitVec 32 := BitVec.ofNat 32 (i 1).val
  let c4_i32 : BitVec 32 := 4#32
  let v77 : BitVec 1 := Scalar.cmpi .eq arg1 c4_i32
  let v78 : BitVec 1 := Scalar.andi v76 v77
  let v79 : BitVec 32 := Scalar.extui v78
  let c0_i32_34 : BitVec 32 := 0#32
  let v80 : BitVec 1 := Scalar.cmpi .ne v79 c0_i32_34
  v80

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2x10000 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S100000x128 : Shape := ⟨2, ![100000, 128]⟩
abbrev S100000 : Shape := ⟨1, ![100000]⟩
abbrev S512x256 : Shape := ⟨2, ![512, 256]⟩
abbrev S512x128 : Shape := ⟨2, ![512, 128]⟩
abbrev S512 : Shape := ⟨1, ![512]⟩
abbrev S_ : Shape := ⟨0, ![]⟩
abbrev S64x128 : Shape := ⟨2, ![64, 128]⟩
abbrev S64x256 : Shape := ⟨2, ![64, 256]⟩
abbrev S1x100000 : Shape := ⟨2, ![1, 100000]⟩
abbrev S64 : Shape := ⟨1, ![64]⟩
abbrev S64x1 : Shape := ⟨2, ![64, 1]⟩
abbrev S64x100000 : Shape := ⟨2, ![64, 100000]⟩
abbrev S256x512 : Shape := ⟨2, ![256, 512]⟩
abbrev S64x512 : Shape := ⟨2, ![64, 512]⟩
abbrev S1x512 : Shape := ⟨2, ![1, 512]⟩
abbrev S128x512 : Shape := ⟨2, ![128, 512]⟩
abbrev S100000x1 : Shape := ⟨2, ![100000, 1]⟩

abbrev nBuf : Space → Nat
  | .hbm => 312
  | .vmem => 0
  | .smem => 0
  | _ => 0

abbrev hbmTy0_0 (i : Nat) : BufTy := match i % 128 with
  | 0 => ⟨S100000x128, .f32⟩
  | 1 => ⟨S100000, .i32⟩
  | 2 => ⟨S512x256, .f32⟩
  | 3 => ⟨S512x128, .f32⟩
  | 4 => ⟨S512, .f32⟩
  | 5 => ⟨S512, .f32⟩
  | 6 => ⟨S_, .f32⟩
  | 7 => ⟨S64x128, .f32⟩
  | 8 => ⟨S_, .f32⟩
  | 9 => ⟨S64x128, .f32⟩
  | 10 => ⟨S_, .f32⟩
  | 11 => ⟨S64x256, .f32⟩
  | 12 => ⟨S1x100000, .i32⟩
  | 13 => ⟨S64, .i32⟩
  | 14 => ⟨S64x1, .i32⟩
  | 15 => ⟨S64x100000, .i32⟩
  | 16 => ⟨S64x100000, .i32⟩
  | 17 => ⟨S64x100000, .i1⟩
  | 18 => ⟨S256x512, .f32⟩
  | 19 => ⟨S64x512, .f32⟩
  | 20 => ⟨S1x512, .f32⟩
  | 21 => ⟨S64x512, .f32⟩
  | 22 => ⟨S64x512, .f32⟩
  | 23 => ⟨S128x512, .f32⟩
  | 24 => ⟨S64x512, .f32⟩
  | 25 => ⟨S64x512, .f32⟩
  | 26 => ⟨S1x512, .f32⟩
  | 27 => ⟨S64x512, .f32⟩
  | 28 => ⟨S64x512, .f32⟩
  | 29 => ⟨S64x128, .f32⟩
  | 30 => ⟨S64x128, .f32⟩
  | 31 => ⟨S64x128, .f32⟩
  | 32 => ⟨S64x128, .f32⟩
  | 33 => ⟨S64x128, .f32⟩
  | 34 => ⟨S64x128, .f32⟩
  | 35 => ⟨S_, .f32⟩
  | 36 => ⟨S64x128, .f32⟩
  | 37 => ⟨S64x128, .f32⟩
  | 38 => ⟨S_, .f32⟩
  | 39 => ⟨S64x128, .f32⟩
  | 40 => ⟨S64x128, .f32⟩
  | 41 => ⟨S64x128, .f32⟩
  | 42 => ⟨S64x128, .f32⟩
  | 43 => ⟨S_, .f32⟩
  | 44 => ⟨S64x128, .f32⟩
  | 45 => ⟨S64x128, .f32⟩
  | 46 => ⟨S_, .f32⟩
  | 47 => ⟨S64x128, .f32⟩
  | 48 => ⟨S64x128, .f32⟩
  | 49 => ⟨S64x128, .f32⟩
  | 50 => ⟨S64x128, .f32⟩
  | 51 => ⟨S64x128, .f32⟩
  | 52 => ⟨S_, .f32⟩
  | 53 => ⟨S64x128, .f32⟩
  | 54 => ⟨S64x128, .f32⟩
  | 55 => ⟨S_, .f32⟩
  | 56 => ⟨S64x128, .f32⟩
  | 57 => ⟨S64x128, .f32⟩
  | 58 => ⟨S64x128, .f32⟩
  | 59 => ⟨S64x128, .f32⟩
  | 60 => ⟨S64x128, .f32⟩
  | 61 => ⟨S64x128, .f32⟩
  | 62 => ⟨S64x128, .f32⟩
  | 63 => ⟨S_, .i32⟩
  | 64 => ⟨S100000, .i32⟩
  | 65 => ⟨S100000, .i1⟩
  | 66 => ⟨S_, .i32⟩
  | 67 => ⟨S100000, .i32⟩
  | 68 => ⟨S100000, .i32⟩
  | 69 => ⟨S100000, .i32⟩
  | 70 => ⟨S100000x1, .i32⟩
  | 71 => ⟨S100000x128, .f32⟩
  | 72 => ⟨S100000x128, .f32⟩
  | 73 => ⟨S_, .f32⟩
  | 74 => ⟨S100000, .f32⟩
  | 75 => ⟨S1x100000, .f32⟩
  | 76 => ⟨S_, .f32⟩
  | 77 => ⟨S_, .f32⟩
  | 78 => ⟨S64x100000, .f32⟩
  | 79 => ⟨S64x100000, .f32⟩
  | 80 => ⟨S64x100000, .f32⟩
  | 81 => ⟨S_, .f32⟩
  | 82 => ⟨S64, .f32⟩
  | 83 => ⟨S_, .i32⟩
  | 84 => ⟨S100000, .i32⟩
  | 85 => ⟨S100000, .i1⟩
  | 86 => ⟨S_, .i32⟩
  | 87 => ⟨S100000, .i32⟩
  | 88 => ⟨S100000, .i32⟩
  | 89 => ⟨S100000, .i32⟩
  | 90 => ⟨S100000x1, .i32⟩
  | 91 => ⟨S100000, .f32⟩
  | 92 => ⟨S100000, .f32⟩
  | 93 => ⟨S100000, .f32⟩
  | 94 => ⟨S_, .f32⟩
  | 95 => ⟨S64, .f32⟩
  | 96 => ⟨S100000x1, .i32⟩
  | 97 => ⟨S64, .f32⟩
  | 98 => ⟨S_, .i32⟩
  | 99 => ⟨S100000, .i32⟩
  | 100 => ⟨S100000, .i1⟩
  | 101 => ⟨S_, .i32⟩
  | 102 => ⟨S100000, .i32⟩
  | 103 => ⟨S100000, .i32⟩
  | 104 => ⟨S100000, .i32⟩
  | 105 => ⟨S100000x1, .i32⟩
  | 106 => ⟨S100000, .f32⟩
  | 107 => ⟨S100000, .f32⟩
  | 108 => ⟨S100000x1, .f32⟩
  | 109 => ⟨S100000x128, .f32⟩
  | 110 => ⟨S100000x128, .f32⟩
  | 111 => ⟨S_, .f32⟩
  | 112 => ⟨S64x128, .f32⟩
  | 113 => ⟨S100000x1, .i32⟩
  | 114 => ⟨S64x128, .f32⟩
  | 115 => ⟨S64x256, .f32⟩
  | 116 => ⟨S256x512, .f32⟩
  | 117 => ⟨S64x512, .f32⟩
  | 118 => ⟨S1x512, .f32⟩
  | 119 => ⟨S64x512, .f32⟩
  | 120 => ⟨S64x512, .f32⟩
  | 121 => ⟨S128x512, .f32⟩
  | 122 => ⟨S64x512, .f32⟩
  | 123 => ⟨S64x512, .f32⟩
  | 124 => ⟨S1x512, .f32⟩
  | 125 => ⟨S64x512, .f32⟩
  | 126 => ⟨S64x512, .f32⟩
  | 127 => ⟨S64x128, .f32⟩
  | _ => ⟨S100000x128, .f32⟩

abbrev hbmTy0_1 (i : Nat) : BufTy := match i % 128 with
  | 0 => ⟨S64x128, .f32⟩
  | 1 => ⟨S64x128, .f32⟩
  | 2 => ⟨S64x128, .f32⟩
  | 3 => ⟨S64x128, .f32⟩
  | 4 => ⟨S64x128, .f32⟩
  | 5 => ⟨S_, .f32⟩
  | 6 => ⟨S64x128, .f32⟩
  | 7 => ⟨S64x128, .f32⟩
  | 8 => ⟨S_, .f32⟩
  | 9 => ⟨S64x128, .f32⟩
  | 10 => ⟨S64x128, .f32⟩
  | 11 => ⟨S64x128, .f32⟩
  | 12 => ⟨S64x128, .f32⟩
  | 13 => ⟨S_, .f32⟩
  | 14 => ⟨S64x128, .f32⟩
  | 15 => ⟨S64x128, .f32⟩
  | 16 => ⟨S_, .f32⟩
  | 17 => ⟨S64x128, .f32⟩
  | 18 => ⟨S64x128, .f32⟩
  | 19 => ⟨S64x128, .f32⟩
  | 20 => ⟨S64x128, .f32⟩
  | 21 => ⟨S64x128, .f32⟩
  | 22 => ⟨S_, .f32⟩
  | 23 => ⟨S64x128, .f32⟩
  | 24 => ⟨S64x128, .f32⟩
  | 25 => ⟨S_, .f32⟩
  | 26 => ⟨S64x128, .f32⟩
  | 27 => ⟨S64x128, .f32⟩
  | 28 => ⟨S64x128, .f32⟩
  | 29 => ⟨S64x128, .f32⟩
  | 30 => ⟨S64x128, .f32⟩
  | 31 => ⟨S64x128, .f32⟩
  | 32 => ⟨S64x128, .f32⟩
  | 33 => ⟨S_, .i32⟩
  | 34 => ⟨S100000, .i32⟩
  | 35 => ⟨S100000, .i1⟩
  | 36 => ⟨S_, .i32⟩
  | 37 => ⟨S100000, .i32⟩
  | 38 => ⟨S100000, .i32⟩
  | 39 => ⟨S100000, .i32⟩
  | 40 => ⟨S100000x1, .i32⟩
  | 41 => ⟨S100000x128, .f32⟩
  | 42 => ⟨S100000x128, .f32⟩
  | 43 => ⟨S_, .f32⟩
  | 44 => ⟨S100000, .f32⟩
  | 45 => ⟨S1x100000, .f32⟩
  | 46 => ⟨S_, .f32⟩
  | 47 => ⟨S_, .f32⟩
  | 48 => ⟨S64x100000, .f32⟩
  | 49 => ⟨S64x100000, .f32⟩
  | 50 => ⟨S64x100000, .f32⟩
  | 51 => ⟨S_, .f32⟩
  | 52 => ⟨S64, .f32⟩
  | 53 => ⟨S_, .i32⟩
  | 54 => ⟨S100000, .i32⟩
  | 55 => ⟨S100000, .i1⟩
  | 56 => ⟨S_, .i32⟩
  | 57 => ⟨S100000, .i32⟩
  | 58 => ⟨S100000, .i32⟩
  | 59 => ⟨S100000, .i32⟩
  | 60 => ⟨S100000x1, .i32⟩
  | 61 => ⟨S100000, .f32⟩
  | 62 => ⟨S100000, .f32⟩
  | 63 => ⟨S100000, .f32⟩
  | 64 => ⟨S_, .f32⟩
  | 65 => ⟨S64, .f32⟩
  | 66 => ⟨S100000x1, .i32⟩
  | 67 => ⟨S64, .f32⟩
  | 68 => ⟨S_, .i32⟩
  | 69 => ⟨S100000, .i32⟩
  | 70 => ⟨S100000, .i1⟩
  | 71 => ⟨S_, .i32⟩
  | 72 => ⟨S100000, .i32⟩
  | 73 => ⟨S100000, .i32⟩
  | 74 => ⟨S100000, .i32⟩
  | 75 => ⟨S100000x1, .i32⟩
  | 76 => ⟨S100000, .f32⟩
  | 77 => ⟨S100000, .f32⟩
  | 78 => ⟨S100000x1, .f32⟩
  | 79 => ⟨S100000x128, .f32⟩
  | 80 => ⟨S100000x128, .f32⟩
  | 81 => ⟨S_, .f32⟩
  | 82 => ⟨S64x128, .f32⟩
  | 83 => ⟨S100000x1, .i32⟩
  | 84 => ⟨S64x128, .f32⟩
  | 85 => ⟨S64x256, .f32⟩
  | 86 => ⟨S256x512, .f32⟩
  | 87 => ⟨S64x512, .f32⟩
  | 88 => ⟨S1x512, .f32⟩
  | 89 => ⟨S64x512, .f32⟩
  | 90 => ⟨S64x512, .f32⟩
  | 91 => ⟨S128x512, .f32⟩
  | 92 => ⟨S64x512, .f32⟩
  | 93 => ⟨S64x512, .f32⟩
  | 94 => ⟨S1x512, .f32⟩
  | 95 => ⟨S64x512, .f32⟩
  | 96 => ⟨S64x512, .f32⟩
  | 97 => ⟨S64x128, .f32⟩
  | 98 => ⟨S64x128, .f32⟩
  | 99 => ⟨S64x128, .f32⟩
  | 100 => ⟨S64x128, .f32⟩
  | 101 => ⟨S64x128, .f32⟩
  | 102 => ⟨S64x128, .f32⟩
  | 103 => ⟨S_, .f32⟩
  | 104 => ⟨S64x128, .f32⟩
  | 105 => ⟨S64x128, .f32⟩
  | 106 => ⟨S_, .f32⟩
  | 107 => ⟨S64x128, .f32⟩
  | 108 => ⟨S64x128, .f32⟩
  | 109 => ⟨S64x128, .f32⟩
  | 110 => ⟨S64x128, .f32⟩
  | 111 => ⟨S_, .f32⟩
  | 112 => ⟨S64x128, .f32⟩
  | 113 => ⟨S64x128, .f32⟩
  | 114 => ⟨S_, .f32⟩
  | 115 => ⟨S64x128, .f32⟩
  | 116 => ⟨S64x128, .f32⟩
  | 117 => ⟨S64x128, .f32⟩
  | 118 => ⟨S64x128, .f32⟩
  | 119 => ⟨S64x128, .f32⟩
  | 120 => ⟨S_, .f32⟩
  | 121 => ⟨S64x128, .f32⟩
  | 122 => ⟨S64x128, .f32⟩
  | 123 => ⟨S_, .f32⟩
  | 124 => ⟨S64x128, .f32⟩
  | 125 => ⟨S64x128, .f32⟩
  | 126 => ⟨S64x128, .f32⟩
  | 127 => ⟨S64x128, .f32⟩
  | _ => ⟨S100000x128, .f32⟩

abbrev hbmTy0_2 (i : Nat) : BufTy := match i % 128 with
  | 0 => ⟨S64x128, .f32⟩
  | 1 => ⟨S64x128, .f32⟩
  | 2 => ⟨S64x128, .f32⟩
  | 3 => ⟨S_, .i32⟩
  | 4 => ⟨S100000, .i32⟩
  | 5 => ⟨S100000, .i1⟩
  | 6 => ⟨S_, .i32⟩
  | 7 => ⟨S100000, .i32⟩
  | 8 => ⟨S100000, .i32⟩
  | 9 => ⟨S100000, .i32⟩
  | 10 => ⟨S100000x1, .i32⟩
  | 11 => ⟨S100000x128, .f32⟩
  | 12 => ⟨S100000x128, .f32⟩
  | 13 => ⟨S_, .f32⟩
  | 14 => ⟨S100000, .f32⟩
  | 15 => ⟨S1x100000, .f32⟩
  | 16 => ⟨S_, .f32⟩
  | 17 => ⟨S_, .f32⟩
  | 18 => ⟨S64x100000, .f32⟩
  | 19 => ⟨S64x100000, .f32⟩
  | 20 => ⟨S64x100000, .f32⟩
  | 21 => ⟨S_, .f32⟩
  | 22 => ⟨S64, .f32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S100000, .f32⟩
  | 32 => ⟨S100000, .f32⟩
  | 33 => ⟨S100000, .f32⟩
  | 34 => ⟨S_, .f32⟩
  | 35 => ⟨S64, .f32⟩
  | 36 => ⟨S100000x1, .i32⟩
  | 37 => ⟨S64, .f32⟩
  | 38 => ⟨S_, .i32⟩
  | 39 => ⟨S100000, .i32⟩
  | 40 => ⟨S100000, .i1⟩
  | 41 => ⟨S_, .i32⟩
  | 42 => ⟨S100000, .i32⟩
  | 43 => ⟨S100000, .i32⟩
  | 44 => ⟨S100000, .i32⟩
  | 45 => ⟨S100000x1, .i32⟩
  | 46 => ⟨S100000, .f32⟩
  | 47 => ⟨S100000, .f32⟩
  | 48 => ⟨S100000x1, .f32⟩
  | 49 => ⟨S100000x128, .f32⟩
  | 50 => ⟨S100000x128, .f32⟩
  | 51 => ⟨S_, .f32⟩
  | 52 => ⟨S64x128, .f32⟩
  | 53 => ⟨S100000x1, .i32⟩
  | 54 => ⟨S64x128, .f32⟩
  | 55 => ⟨S64x256, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c : Ref sig .tc := ⟨.hbm, 63, rfl⟩
abbrev main_v48 : Ref sig .tc := ⟨.hbm, 64, rfl⟩
abbrev main_v49 : Ref sig .tc := ⟨.hbm, 65, rfl⟩
abbrev main_c_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_c_12 : Ref sig .tc := ⟨.hbm, 83, rfl⟩
abbrev main_v60 : Ref sig .tc := ⟨.hbm, 84, rfl⟩
abbrev main_v61 : Ref sig .tc := ⟨.hbm, 85, rfl⟩
abbrev main_c_13 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_14 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_15 : Ref sig .tc := ⟨.hbm, 98, rfl⟩
abbrev main_v72 : Ref sig .tc := ⟨.hbm, 99, rfl⟩
abbrev main_v73 : Ref sig .tc := ⟨.hbm, 100, rfl⟩
abbrev main_c_16 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_17 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_18 : Ref sig .tc := ⟨.hbm, 133, rfl⟩
abbrev main_v104 : Ref sig .tc := ⟨.hbm, 134, rfl⟩
abbrev main_v105 : Ref sig .tc := ⟨.hbm, 135, rfl⟩
abbrev main_cst_19 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_20 : Ref sig .tc := ⟨.hbm, 141, rfl⟩
abbrev main_v110 : Ref sig .tc := ⟨.hbm, 142, rfl⟩
abbrev main_v111 : Ref sig .tc := ⟨.hbm, 143, rfl⟩
abbrev main_cst_21 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_22 : Ref sig .tc := ⟨.hbm, 150, rfl⟩
abbrev main_v117 : Ref sig .tc := ⟨.hbm, 151, rfl⟩
abbrev main_v118 : Ref sig .tc := ⟨.hbm, 152, rfl⟩
abbrev main_cst_23 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_c_24 : Ref sig .tc := ⟨.hbm, 161, rfl⟩
abbrev main_v126 : Ref sig .tc := ⟨.hbm, 162, rfl⟩
abbrev main_v127 : Ref sig .tc := ⟨.hbm, 163, rfl⟩
abbrev main_c_25 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_26 : Ref sig .tc := ⟨.hbm, 171, rfl⟩
abbrev main_v134 : Ref sig .tc := ⟨.hbm, 172, rfl⟩
abbrev main_v135 : Ref sig .tc := ⟨.hbm, 173, rfl⟩
abbrev main_cst_27 : Ref sig .tc := ⟨.hbm, 174, rfl⟩
abbrev main_call1_v0 : Ref sig .tc := ⟨.hbm, 175, rfl⟩
abbrev main_call1_v1 : Ref sig .tc := ⟨.hbm, 176, rfl⟩
abbrev main_call1_v2 : Ref sig .tc := ⟨.hbm, 177, rfl⟩
abbrev main_v136 : Ref sig .tc := ⟨.hbm, 178, rfl⟩
abbrev main_cst_28 : Ref sig .tc := ⟨.hbm, 179, rfl⟩
abbrev main_v137 : Ref sig .tc := ⟨.hbm, 180, rfl⟩
abbrev main_c_29 : Ref sig .tc := ⟨.hbm, 181, rfl⟩
abbrev main_v138 : Ref sig .tc := ⟨.hbm, 182, rfl⟩
abbrev main_v139 : Ref sig .tc := ⟨.hbm, 183, rfl⟩
abbrev main_c_30 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_cst_31 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_c_32 : Ref sig .tc := ⟨.hbm, 196, rfl⟩
abbrev main_v150 : Ref sig .tc := ⟨.hbm, 197, rfl⟩
abbrev main_v151 : Ref sig .tc := ⟨.hbm, 198, rfl⟩
abbrev main_c_33 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_cst_34 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_cst_35 : Ref sig .tc := ⟨.hbm, 231, rfl⟩
abbrev main_v182 : Ref sig .tc := ⟨.hbm, 232, rfl⟩
abbrev main_v183 : Ref sig .tc := ⟨.hbm, 233, rfl⟩
abbrev main_cst_36 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_cst_37 : Ref sig .tc := ⟨.hbm, 239, rfl⟩
abbrev main_v188 : Ref sig .tc := ⟨.hbm, 240, rfl⟩
abbrev main_v189 : Ref sig .tc := ⟨.hbm, 241, rfl⟩
abbrev main_cst_38 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_cst_39 : Ref sig .tc := ⟨.hbm, 248, rfl⟩
abbrev main_v195 : Ref sig .tc := ⟨.hbm, 249, rfl⟩
abbrev main_v196 : Ref sig .tc := ⟨.hbm, 250, rfl⟩
abbrev main_cst_40 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_c_41 : Ref sig .tc := ⟨.hbm, 259, rfl⟩
abbrev main_v204 : Ref sig .tc := ⟨.hbm, 260, rfl⟩
abbrev main_v205 : Ref sig .tc := ⟨.hbm, 261, rfl⟩
abbrev main_c_42 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_cst_43 : Ref sig .tc := ⟨.hbm, 269, rfl⟩
abbrev main_v212 : Ref sig .tc := ⟨.hbm, 270, rfl⟩
abbrev main_v213 : Ref sig .tc := ⟨.hbm, 271, rfl⟩
abbrev main_cst_44 : Ref sig .tc := ⟨.hbm, 272, rfl⟩
abbrev main_call2_v0 : Ref sig .tc := ⟨.hbm, 273, rfl⟩
abbrev main_call2_v1 : Ref sig .tc := ⟨.hbm, 274, rfl⟩
abbrev main_call2_v2 : Ref sig .tc := ⟨.hbm, 275, rfl⟩
abbrev main_v214 : Ref sig .tc := ⟨.hbm, 276, rfl⟩
abbrev main_cst_45 : Ref sig .tc := ⟨.hbm, 277, rfl⟩
abbrev main_v215 : Ref sig .tc := ⟨.hbm, 278, rfl⟩
abbrev main_c_46 : Ref sig .tc := ⟨.hbm, 279, rfl⟩
abbrev main_v216 : Ref sig .tc := ⟨.hbm, 280, rfl⟩
abbrev main_v217 : Ref sig .tc := ⟨.hbm, 281, rfl⟩
abbrev main_c_47 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_cst_48 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_c_49 : Ref sig .tc := ⟨.hbm, 294, rfl⟩
abbrev main_v228 : Ref sig .tc := ⟨.hbm, 295, rfl⟩
abbrev main_v229 : Ref sig .tc := ⟨.hbm, 296, rfl⟩
abbrev main_c_50 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_v238 : Ref sig .tc := ⟨.hbm, 306, rfl⟩
abbrev main_cst_51 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩

abbrev nD : Nat := 1
abbrev τ : Topo := Topo.v7x

variable {F : FTy → Type} [FloatOps F]
-- ==== Proof.KernelCases.lean ====
/-
  WHAT ONE GRID POINT LEAVES BEHIND. The body of the pooling kernel has four cases: the first point of all (start the
  recurrence from zero), the first point of a later step (form `q_star` from the finished pool, run the cell), a point
  inside a step (fold one block of rows into the running maximum, sum and pool), and the last point (the same, then write
  the result). Each lemma below states one carried array after a point as a named function of the arrays before it.
-/
module

public import proofs.«01_k».proof.Proof.Gen.KernelIdeal.Value
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

namespace Cert.Set2Set

open Cert.KernelIdeal Cert.KernelIdeal.Gen Idealize.ShloMosaic Idealize.ShloMosaic.TcCoe Idealize.SL.Sem

variable {F : FTy → Type} [FloatOps F] [Named F]

/-- Two 128-column arrays side by side, as the two half-width stores leave a 256-column buffer. -/
def side (a b : Vec F S64x128 .f32) : Vec F S64x256 .f32 := fun y =>
  if h : (y 1).val < 128 then a (ValueIdx.ix2 (y 0) ⟨(y 1).val, h⟩)
  else b (ValueIdx.ix2 (y 0) ⟨(y 1).val - 128, by have : (y 1).val < 256 := (y 1).isLt; omega⟩)

/-- The cell's new `c`, from `q_star`, `h`, `c` and the weights. -/
abbrev newC (qs : Vec F S64x256 .f32) (h cc : Vec F S64x128 .f32) (wi : Vec F S256x512 .f32) (wh : Vec F S128x512 .f32) (bi : Vec F S1x512 .f32) :
    Vec F S64x128 .f32 := k0_pay8 qs wi h wh bi cc

/-- The cell's new `h`. -/
abbrev newH (qs : Vec F S64x256 .f32) (h cc : Vec F S64x128 .f32) (wi : Vec F S256x512 .f32) (wh : Vec F S128x512 .f32) (bi : Vec F S1x512 .f32) :
    Vec F S64x128 .f32 := k0_pay10 qs wi h wh bi cc

/-- The first half of a block of nodes. -/
abbrev rows0 (x : Vec F S20000x128 .f32) : Vec F S10000x128 .f32 := View.ld x (Rect.unit ![0, 0] S10000x128.size inb_S20000x128_S10000x128_0_0)
/-- The second half of a block of nodes. -/
abbrev rows1 (x : Vec F S20000x128 .f32) : Vec F S10000x128 .f32 := View.ld x (Rect.unit ![10000, 0] S10000x128.size inb_S20000x128_S10000x128_10000_0)

/-- The first half of a block of segment ids. -/
abbrev ids0 (x : Vec F S1x2x10000 .bf16) : Vec F S1x1x10000 .bf16 := View.ld x (Rect.unit ![0, 0, 0] S1x1x10000.size inb_S1x2x10000_S1x1x10000_0_0_0)
/-- The second half of a block of segment ids. -/
abbrev ids1 (x : Vec F S1x2x10000 .bf16) : Vec F S1x1x10000 .bf16 := View.ld x (Rect.unit ![0, 1, 0] S1x1x10000.size inb_S1x2x10000_S1x1x10000_0_1_0)

/-- The running maximum after the first half of a block. -/
abbrev maxHalf (h : Vec F S64x128 .f32) (x : Vec F S20000x128 .f32) (g : Vec F S1x2x10000 .bf16) (mm : Vec F S64x1 .f32) : FVec F S64x1 .f32 :=
  k0_pay21 h (rows0 x) (ids0 g) mm

/-- The largest masked score of the second half of a block. -/
abbrev topHalf (h : Vec F S64x128 .f32) (x : Vec F S20000x128 .f32) (g : Vec F S1x2x10000 .bf16) : FVec F S64 .bf16 :=
  k0_pay22 h (rows1 x) (ids1 g)

/-- The running maximum after a block. -/
abbrev accM (h : Vec F S64x128 .f32) (x : Vec F S20000x128 .f32) (g : Vec F S1x2x10000 .bf16) (mm : Vec F S64x1 .f32) : Vec F S64x1 .f32 :=
  k0_pay30 (maxHalf h x g mm) (topHalf h x g)

/-- The running sum of exponentials after a block. -/
abbrev accS (h : Vec F S64x128 .f32) (x : Vec F S20000x128 .f32) (g : Vec F S1x2x10000 .bf16) (mm ss : Vec F S64x1 .f32) : Vec F S64x1 .f32 :=
  k0_pay29 (k0_pay19 h (rows0 x) (ids0 g)) (k0_pay20 h (rows1 x) (ids1 g)) mm (maxHalf h x g mm) (topHalf h x g) ss

/-- The running weighted sum of rows after a block. -/
abbrev accR (h : Vec F S64x128 .f32) (x : Vec F S20000x128 .f32) (g : Vec F S1x2x10000 .bf16) (mm : Vec F S64x1 .f32) (rr : Vec F S64x128 .f32) : Vec F S64x128 .f32 :=
  k0_pay28 (k0_pay17 (rows0 x)) (k0_pay18 (rows1 x)) (k0_pay19 h (rows0 x) (ids0 g)) (k0_pay20 h (rows1 x) (ids1 g)) mm (maxHalf h x g mm) (topHalf h x g) rr

/-- The left half at a column below 128. -/
theorem side_left (a b : Vec F S64x128 .f32) (y : S64x128.Idx) (inb) :
    side a b ((Rect.unit (s := S64x256) ![0, 0] ![64, 128] inb).emb y) = a y := by
  have hy : (y 1).val < 128 := (y 1).isLt
  unfold side
  rw [dif_pos (show (((Rect.unit (s := S64x256) ![0, 0] ![64, 128] inb).emb y) 1).val < 128 from by
    show 0 + 1 * (y 1).val < 128; omega)]
  refine congrArg a (funext fun q => Fin.ext ?_)
  fin_cases q
  · show 0 + 1 * (y 0).val = (y 0).val; omega
  · show 0 + 1 * (y 1).val = (y 1).val; omega

/-- The right half at a column from 128 on. -/
theorem side_right (a b : Vec F S64x128 .f32) (y : S64x128.Idx) (inb) :
    side a b ((Rect.unit (s := S64x256) ![0, 128] ![64, 128] inb).emb y) = b y := by
  have hy : (y 1).val < 128 := (y 1).isLt
  unfold side
  rw [dif_neg (show ¬ (((Rect.unit (s := S64x256) ![0, 128] ![64, 128] inb).emb y) 1).val < 128 from by
    show ¬ 128 + 1 * (y 1).val < 128; omega)]
  refine congrArg b (funext fun q => Fin.ext ?_)
  fin_cases q
  · show 0 + 1 * (y 0).val = (y 0).val; omega
  · show 128 + 1 * (y 1).val - 128 = (y 1).val; omega

/-- The pieces of the two half-width stores, read as a whole, are the two halves side by side. -/
theorem canon_side (a b : Vec F S64x128 .f32) (inb0) (inb1) :
    View.canon [(⟨Rect.unit ![0, 0] ![64, 128] inb0, a⟩ : View.Piece (Elt F) S64x256 .f32),
      ⟨Rect.unit ![0, 128] ![64, 128] inb1, b⟩] = side a b := by
  funext y
  refine View.canon_apply_of_pieces (side a b) _ (fun p hp x => ?_) y ?_
  · rcases List.mem_cons.mp hp with rfl | hp
    · exact (side_left a b x inb0).symm
    · rw [List.mem_singleton] at hp
      subst hp
      exact (side_right a b x inb1).symm
  · have h0 : (y 0).val < 64 := (y 0).isLt
    have h1 : (y 1).val < 256 := (y 1).isLt
    by_cases hy : (y 1).val < 128
    · refine ⟨_, List.mem_cons_self, (Rect.mem_set_unit (inb := inb0)).mpr fun q => ?_⟩
      fin_cases q
      · exact ⟨Nat.zero_le _, show (y 0).val < 0 + 64 by omega⟩
      · exact ⟨Nat.zero_le _, show (y 1).val < 0 + 128 by omega⟩
    · refine ⟨_, List.mem_cons_of_mem _ List.mem_cons_self, (Rect.mem_set_unit (inb := inb1)).mpr fun q => ?_⟩
      fin_cases q
      · exact ⟨Nat.zero_le _, show (y 0).val < 0 + 64 by omega⟩
      · exact ⟨show 128 ≤ (y 1).val by omega, show (y 1).val < 128 + 128 by omega⟩

/-- The same with the right half stored last. -/
theorem canon_side' (a b : Vec F S64x128 .f32) (inb0) (inb1) :
    View.canon [(⟨Rect.unit ![0, 128] ![64, 128] inb1, b⟩ : View.Piece (Elt F) S64x256 .f32),
      ⟨Rect.unit ![0, 0] ![64, 128] inb0, a⟩] = side a b := by
  funext y
  refine View.canon_apply_of_pieces (side a b) _ (fun p hp x => ?_) y ?_
  · rcases List.mem_cons.mp hp with rfl | hp
    · exact (side_right a b x inb1).symm
    · rw [List.mem_singleton] at hp
      subst hp
      exact (side_left a b x inb0).symm
  · have h0 : (y 0).val < 64 := (y 0).isLt
    have h1 : (y 1).val < 256 := (y 1).isLt
    by_cases hy : (y 1).val < 128
    · refine ⟨_, List.mem_cons_of_mem _ List.mem_cons_self, (Rect.mem_set_unit (inb := inb0)).mpr fun q => ?_⟩
      fin_cases q
      · exact ⟨Nat.zero_le _, show (y 0).val < 0 + 64 by omega⟩
      · exact ⟨Nat.zero_le _, show (y 1).val < 0 + 128 by omega⟩
    · refine ⟨_, List.mem_cons_self, (Rect.mem_set_unit (inb := inb1)).mpr fun q => ?_⟩
      fin_cases q
      · exact ⟨Nat.zero_le _, show (y 0).val < 0 + 64 by omega⟩
      · exact ⟨show 128 ≤ (y 1).val by omega, show (y 1).val < 128 + 128 by omega⟩

/-- A load of a whole 256-column buffer after stores reads what the stores left. -/
theorem readCov_all (v : View sig .tc .vmem S64x256 .f32) (L : List (View.Piece (Elt F) S64x256 .f32)) (inb) :
    v.readCov L (Rect.unit ![0, 0] ![64, 256] inb).toLoadRect = View.canon L := by
  rw [View.readCov_eq_canon']
  funext y
  refine congrArg (View.canon L) (funext fun q => Fin.ext ?_)
  fin_cases q
  · show 0 + 1 * (y 0).val = (y 0).val; omega
  · show 0 + 1 * (y 1).val = (y 1).val; omega

variable (c : Dev nD) (i : grid0.Coords) (a2 : Memref sig .tc .vmem S20000x128 .f32) (h2 : a2.IsWhole) (a3 : Memref sig .tc .vmem S1x2x10000 .bf16) (h3 : a3.IsWhole)
  (a4 : Memref sig .tc .vmem S256x512 .f32) (h4 : a4.IsWhole) (a5 : Memref sig .tc .vmem S128x512 .f32) (h5 : a5.IsWhole) (a6 : Memref sig .tc .vmem S1x512 .f32) (h6 : a6.IsWhole)
  (a7 : Memref sig .tc .vmem S64x256 .f32) (h7 : a7.IsWhole) (a8 : Memref sig .tc .vmem S64x128 .f32) (h8 : a8.IsWhole) (a9 : Memref sig .tc .vmem S64x128 .f32) (h9 : a9.IsWhole)
  (a10 : Memref sig .tc .vmem S64x256 .f32) (h10 : a10.IsWhole) (a11 : Memref sig .tc .vmem S64x1 .f32) (h11 : a11.IsWhole) (a12 : Memref sig .tc .vmem S64x1 .f32) (h12 : a12.IsWhole)
  (a13 : Memref sig .tc .vmem S64x128 .f32) (h13 : a13.IsWhole)
  (x0 : Vec F S20000x128 .f32) (x1 : Vec F S1x2x10000 .bf16) (x2 : Vec F S256x512 .f32) (x3 : Vec F S128x512 .f32) (x4 : Vec F S1x512 .f32)
  (xs0 xs1 : Vec F S64x128 .f32) (xs3 xs4 : Vec F S64x1 .f32) (xs5 : Vec F S64x128 .f32)

/-- After the first point of all: `h`. -/
theorem atA_h (hc0 : cond0_0 i) (hc1 : cond0_1 i) (hc2 : ¬cond0_2 i) (hc3 : ¬cond0_3 i) :
    sout0_A_0 c i a2 h2 a3 h3 a4 h4 a5 h5 a6 h6 a7 h7 a8 h8 a9 h9 a10 h10 a11 h11 a12 h12 a13 h13 hc0 hc1 hc2 hc3 x0 x1 x2 x3 x4
      = newH k0_pay2 k0_pay3 k0_pay4 x2 x3 x4 := by
  frame_open
  simp (disch := decide) only [↓ View.readCov_skip, ↓ View.readCov_cons_toLoadRect, ↓ View.readCov_fill]
  frame_out
  dsimp only [newH, newC, accM, accS, accR, maxHalf, topHalf]
  unfold_payloads
  simp only [shapeCast_self]

/-- After the first point of all: `c`. -/
theorem atA_c (hc0 : cond0_0 i) (hc1 : cond0_1 i) (hc2 : ¬cond0_2 i) (hc3 : ¬cond0_3 i) :
    sout0_A_1 c i a2 h2 a3 h3 a4 h4 a5 h5 a6 h6 a7 h7 a8 h8 a9 h9 a10 h10 a11 h11 a12 h12 a13 h13 hc0 hc1 hc2 hc3 x0 x1 x2 x3 x4
      = newC k0_pay2 k0_pay3 k0_pay4 x2 x3 x4 := by
  frame_open
  simp (disch := decide) only [↓ View.readCov_skip, ↓ View.readCov_cons_toLoadRect, ↓ View.readCov_fill]
  frame_out
  dsimp only [newH, newC, accM, accS, accR, maxHalf, topHalf]
  unfold_payloads
  simp only [shapeCast_self]

/-- After the first point of all: the running maximum. -/
theorem atA_m (hc0 : cond0_0 i) (hc1 : cond0_1 i) (hc2 : ¬cond0_2 i) (hc3 : ¬cond0_3 i) :
    sout0_A_3 c i a2 h2 a3 h3 a4 h4 a5 h5 a6 h6 a7 h7 a8 h8 a9 h9 a10 h10 a11 h11 a12 h12 a13 h13 hc0 hc1 hc2 hc3 x0 x1 x2 x3 x4
      = accM (newH k0_pay2 k0_pay3 k0_pay4 x2 x3 x4) x0 x1 k0_pay12 := by
  frame_open
  simp (disch := decide) only [↓ View.readCov_skip, ↓ View.readCov_cons_toLoadRect, ↓ View.readCov_fill]
  frame_out
  dsimp only [newH, newC, accM, accS, accR, maxHalf, topHalf]
  unfold_payloads
  simp only [shapeCast_self]

/-- After the first point of all: the running sum. -/
theorem atA_s (hc0 : cond0_0 i) (hc1 : cond0_1 i) (hc2 : ¬cond0_2 i) (hc3 : ¬cond0_3 i) :
    sout0_A_4 c i a2 h2 a3 h3 a4 h4 a5 h5 a6 h6 a7 h7 a8 h8 a9 h9 a10 h10 a11 h11 a12 h12 a13 h13 hc0 hc1 hc2 hc3 x0 x1 x2 x3 x4
      = accS (newH k0_pay2 k0_pay3 k0_pay4 x2 x3 x4) x0 x1 k0_pay12 k0_pay13 := by
  frame_open
  simp (disch := decide) only [↓ View.readCov_skip, ↓ View.readCov_cons_toLoadRect, ↓ View.readCov_fill]
  frame_out
  dsimp only [newH, newC, accM, accS, accR, maxHalf, topHalf]
  unfold_payloads
  simp only [shapeCast_self]

/-- After the first point of all: the running pool. -/
theorem atA_r (hc0 : cond0_0 i) (hc1 : cond0_1 i) (hc2 : ¬cond0_2 i) (hc3 : ¬cond0_3 i) :
    sout0_A_5 c i a2 h2 a3 h3 a4 h4 a5 h5 a6 h6 a7 h7 a8 h8 a9 h9 a10 h10 a11 h11 a12 h12 a13 h13 hc0 hc1 hc2 hc3 x0 x1 x2 x3 x4
      = accR (newH k0_pay2 k0_pay3 k0_pay4 x2 x3 x4) x0 x1 k0_pay12 k0_pay14 := by
  frame_open
  simp (disch := decide) only [↓ View.readCov_skip, ↓ View.readCov_cons_toLoadRect, ↓ View.readCov_fill]
  frame_out
  dsimp only [newH, newC, accM, accS, accR, maxHalf, topHalf]
  unfold_payloads
  simp only [shapeCast_self]

/-- After a point inside a step: `h`. -/
theorem atB_h (hc0 : ¬cond0_0 i) (hc3 : ¬cond0_3 i) :
    sout0_B_0 c i a2 h2 a3 h3 a4 h4 a5 h5 a6 h6 a7 h7 a8 h8 a9 h9 a10 h10 a11 h11 a12 h12 a13 h13 hc0 hc3 x0 x1 x2 x3 x4 xs0 xs1 xs3 xs4 xs5
      = xs0 := by
  rfl

/-- After a point inside a step: `c`. -/
theorem atB_c (hc0 : ¬cond0_0 i) (hc3 : ¬cond0_3 i) :
    sout0_B_1 c i a2 h2 a3 h3 a4 h4 a5 h5 a6 h6 a7 h7 a8 h8 a9 h9 a10 h10 a11 h11 a12 h12 a13 h13 hc0 hc3 x0 x1 x2 x3 x4 xs0 xs1 xs3 xs4 xs5
      = xs1 := by
  rfl

/-- After a point inside a step: the running maximum. -/
theorem atB_m (hc0 : ¬cond0_0 i) (hc3 : ¬cond0_3 i) :
    sout0_B_3 c i a2 h2 a3 h3 a4 h4 a5 h5 a6 h6 a7 h7 a8 h8 a9 h9 a10 h10 a11 h11 a12 h12 a13 h13 hc0 hc3 x0 x1 x2 x3 x4 xs0 xs1 xs3 xs4 xs5
      = accM xs0 x0 x1 xs3 := by
  frame_open
  frame_out

/-- After a point inside a step: the running sum. -/
theorem atB_s (hc0 : ¬cond0_0 i) (hc3 : ¬cond0_3 i) :
    sout0_B_4 c i a2 h2 a3 h3 a4 h4 a5 h5 a6 h6 a7 h7 a8 h8 a9 h9 a10 h10 a11 h11 a12 h12 a13 h13 hc0 hc3 x0 x1 x2 x3 x4 xs0 xs1 xs3 xs4 xs5
      = accS xs0 x0 x1 xs3 xs4 := by
  frame_open
  frame_out

/-- After a point inside a step: the running pool. -/
theorem atB_r (hc0 : ¬cond0_0 i) (hc3 : ¬cond0_3 i) :
    sout0_B_5 c i a2 h2 a3 h3 a4 h4 a5 h5 a6 h6 a7 h7 a8 h8 a9 h9 a10 h10 a11 h11 a12 h12 a13 h13 hc0 hc3 x0 x1 x2 x3 x4 xs0 xs1 xs3 xs4 xs5
      = accR xs0 x0 x1 xs3 xs5 := by
  frame_open
  frame_out

/-- After the first point of a later step: `h`. -/
theorem atC_h (hc0 : cond0_0 i) (hc1 : ¬cond0_1 i) (hc2 : cond0_2 i) (hc3 : ¬cond0_3 i) :
    sout0_C_0 c i a2 h2 a3 h3 a4 h4 a5 h5 a6 h6 a7 h7 a8 h8 a9 h9 a10 h10 a11 h11 a12 h12 a13 h13 hc0 hc1 hc2 hc3 x0 x1 x2 x3 x4 xs0 xs1 xs4 xs5
      = newH (side xs0 (k0_pay5 xs4 xs5)) xs0 xs1 x2 x3 x4 := by
  frame_open
  simp (disch := decide) only [↓ View.readCov_skip, ↓ View.readCov_cons_toLoadRect, ↓ View.readCov_fill]
  frame_out
  simp only [readCov_all, canon_side, canon_side']
  dsimp only [newH, newC, accM, accS, accR, maxHalf, topHalf]
  unfold_payloads
  simp only [shapeCast_self]

/-- After the first point of a later step: `c`. -/
theorem atC_c (hc0 : cond0_0 i) (hc1 : ¬cond0_1 i) (hc2 : cond0_2 i) (hc3 : ¬cond0_3 i) :
    sout0_C_1 c i a2 h2 a3 h3 a4 h4 a5 h5 a6 h6 a7 h7 a8 h8 a9 h9 a10 h10 a11 h11 a12 h12 a13 h13 hc0 hc1 hc2 hc3 x0 x1 x2 x3 x4 xs0 xs1 xs4 xs5
      = newC (side xs0 (k0_pay5 xs4 xs5)) xs0 xs1 x2 x3 x4 := by
  frame_open
  simp (disch := decide) only [↓ View.readCov_skip, ↓ View.readCov_cons_toLoadRect, ↓ View.readCov_fill]
  frame_out
  simp only [readCov_all, canon_side, canon_side']
  dsimp only [newH, newC, accM, accS, accR, maxHalf, topHalf]
  unfold_payloads
  simp only [shapeCast_self]

/-- After the first point of a later step: the running maximum. -/
theorem atC_m (hc0 : cond0_0 i) (hc1 : ¬cond0_1 i) (hc2 : cond0_2 i) (hc3 : ¬cond0_3 i) :
    sout0_C_3 c i a2 h2 a3 h3 a4 h4 a5 h5 a6 h6 a7 h7 a8 h8 a9 h9 a10 h10 a11 h11 a12 h12 a13 h13 hc0 hc1 hc2 hc3 x0 x1 x2 x3 x4 xs0 xs1 xs4 xs5
      = accM (newH (side xs0 (k0_pay5 xs4 xs5)) xs0 xs1 x2 x3 x4) x0 x1 k0_pay12 := by
  frame_open
  simp (disch := decide) only [↓ View.readCov_skip, ↓ View.readCov_cons_toLoadRect, ↓ View.readCov_fill]
  frame_out
  simp only [readCov_all, canon_side, canon_side']
  dsimp only [newH, newC, accM, accS, accR, maxHalf, topHalf]
  unfold_payloads
  simp only [shapeCast_self]

/-- After the first point of a later step: the running sum. -/
theorem atC_s (hc0 : cond0_0 i) (hc1 : ¬cond0_1 i) (hc2 : cond0_2 i) (hc3 : ¬cond0_3 i) :
    sout0_C_4 c i a2 h2 a3 h3 a4 h4 a5 h5 a6 h6 a7 h7 a8 h8 a9 h9 a10 h10 a11 h11 a12 h12 a13 h13 hc0 hc1 hc2 hc3 x0 x1 x2 x3 x4 xs0 xs1 xs4 xs5
      = accS (newH (side xs0 (k0_pay5 xs4 xs5)) xs0 xs1 x2 x3 x4) x0 x1 k0_pay12 k0_pay13 := by
  frame_open
  simp (disch := decide) only [↓ View.readCov_skip, ↓ View.readCov_cons_toLoadRect, ↓ View.readCov_fill]
  frame_out
  simp only [readCov_all, canon_side, canon_side']
  dsimp only [newH, newC, accM, accS, accR, maxHalf, topHalf]
  unfold_payloads
  simp only [shapeCast_self]

/-- After the first point of a later step: the running pool. -/
theorem atC_r (hc0 : cond0_0 i) (hc1 : ¬cond0_1 i) (hc2 : cond0_2 i) (hc3 : ¬cond0_3 i) :
    sout0_C_5 c i a2 h2 a3 h3 a4 h4 a5 h5 a6 h6 a7 h7 a8 h8 a9 h9 a10 h10 a11 h11 a12 h12 a13 h13 hc0 hc1 hc2 hc3 x0 x1 x2 x3 x4 xs0 xs1 xs4 xs5
      = accR (newH (side xs0 (k0_pay5 xs4 xs5)) xs0 xs1 x2 x3 x4) x0 x1 k0_pay12 k0_pay14 := by
  frame_open
  simp (disch := decide) only [↓ View.readCov_skip, ↓ View.readCov_cons_toLoadRect, ↓ View.readCov_fill]
  frame_out
  simp only [readCov_all, canon_side, canon_side']
  dsimp only [newH, newC, accM, accS, accR, maxHalf, topHalf]
  unfold_payloads
  simp only [shapeCast_self]

/-- After the last point: the result block. -/
theorem atD_out (hc0 : ¬cond0_0 i) (hc3 : cond0_3 i) :
    out0_D_5 c i a2 h2 a3 h3 a4 h4 a5 h5 a6 h6 a7 h7 a8 h8 a9 h9 a10 h10 a11 h11 a12 h12 a13 h13 hc0 hc3 x0 x1 x2 x3 x4 xs0 xs1 xs3 xs4 xs5
      = side xs0 (k0_pay1 (accS xs0 x0 x1 xs3 xs4) (accR xs0 x0 x1 xs3 xs5)) := by
  frame_open
  frame_out
  simp only [readCov_all, canon_side, canon_side']

end Cert.Set2Set
-- ==== Proof.Spec.lean ====
module

public import Idealize.ShloMosaic.Lib.Pointwise

/-!
# The mathematics: an LSTM cell reading a set through softmax attention

100000 nodes with 128 features each belong to 64 segments. One step feeds a 64-row LSTM cell with the row read in the
step before, takes the cell's new hidden rows as queries, weighs every node of a segment by the exponential of its
product with the segment's query, and reads the weighted mean of the segment's nodes. The row for the next step is the
query with that mean beside it. This module states the step over plain functions of the coordinates, and proves the
facts about real and extended real numbers that both programs need: hidden rows are real, and a softmax sum collected
block by block under a running maximum is the plain sum up to one common factor.
-/

@[expose] public section

noncomputable section

namespace Cert.Set2Set

open Idealize.ShloMosaic

/-- The problem's data: node features, each node's segment, the cell's two weight matrices and the sum of its biases. -/
structure Problem where
  /-- feature `d` of node `n` -/
  x : Fin 100000 → Fin 128 → EReal
  /-- the segment of node `n`, as the 32-bit word given -/
  seg : Fin 100000 → BitVec 32
  /-- weights from the row read before -/
  wi : Fin 512 → Fin 256 → EReal
  /-- weights from the hidden row -/
  wh : Fin 512 → Fin 128 → EReal
  /-- the bias of each gate -/
  bias : Fin 512 → EReal

/-- What a step hands to the next one. -/
structure St where
  /-- the query with the segment's mean beside it -/
  q : Fin 64 → Fin 256 → EReal
  /-- the hidden rows -/
  h : Fin 64 → Fin 128 → EReal
  /-- the cell rows -/
  c : Fin 64 → Fin 128 → EReal

namespace Problem

variable (p : Problem)

/-- The four gates before their nonlinearities, 128 columns each. -/
def gate (s : St) (b : Fin 64) (j : Fin 512) : EReal :=
  (∑ k, s.q b k * p.wi j k) + (∑ k, s.h b k * p.wh j k) + p.bias j

/-- The new cell rows. -/
def nextC (s : St) (b : Fin 64) (d : Fin 128) : EReal :=
  Ideal.logistic (p.gate s b ⟨128 + d.val, by omega⟩) * s.c b d +
    Ideal.logistic (p.gate s b ⟨d.val, by omega⟩) * Ideal.tanh (p.gate s b ⟨256 + d.val, by omega⟩)

/-- The new hidden rows, which are the queries. -/
def nextH (s : St) (b : Fin 64) (d : Fin 128) : EReal :=
  Ideal.logistic (p.gate s b ⟨384 + d.val, by omega⟩) * Ideal.tanh (p.nextC s b d)

/-- The weight of node `n` in row `b` for queries `h`: the exponential of their product if the node belongs there. -/
def weight (h : Fin 64 → Fin 128 → EReal) (b : Fin 64) (n : Fin 100000) : ℝ :=
  if p.seg n = BitVec.ofNat 32 b.val then Real.exp (∑ d, (p.x n d).toReal * (h b d).toReal) else 0

/-- The weighted mean of a segment's nodes; zero for an empty segment. -/
def pool (h : Fin 64 → Fin 128 → EReal) (b : Fin 64) (d : Fin 128) : EReal :=
  (((∑ n, p.weight h b n * (p.x n d).toReal) / ∑ n, p.weight h b n : ℝ) : EReal)

/-- Two 64-row arrays of 128 columns side by side. -/
def beside (u v : Fin 64 → Fin 128 → EReal) (b : Fin 64) (k : Fin 256) : EReal :=
  if h : k.val < 128 then u b ⟨k.val, h⟩ else v b ⟨k.val - 128, by omega⟩

/-- One step. -/
def next (s : St) : St where
  q := beside (p.nextH s) (p.pool (p.nextH s))
  h := p.nextH s
  c := p.nextC s

/-- The state after `n` steps from zeros. -/
def after : ℕ → St
  | 0 => ⟨fun _ _ => 0, fun _ _ => 0, fun _ _ => 0⟩
  | n + 1 => p.next (after n)

end Problem

/-- A logistic value is a real number. -/
theorem logistic_real (y : EReal) : ∃ r : ℝ, Ideal.logistic y = (r : EReal) := by
  induction y with
  | bot => exact ⟨0, by simp⟩
  | top => exact ⟨1, by simp⟩
  | coe r => exact ⟨_, Ideal.logistic_coe r⟩

/-- A hyperbolic tangent is a real number. -/
theorem tanh_real (y : EReal) : ∃ r : ℝ, Ideal.tanh y = (r : EReal) := by
  induction y with
  | bot => exact ⟨-1, rfl⟩
  | top => exact ⟨1, rfl⟩
  | coe r => exact ⟨_, rfl⟩

/-- The hidden rows are real numbers, whatever the state before. -/
theorem nextH_real (p : Problem) (s : St) (b : Fin 64) (d : Fin 128) :
    p.nextH s b d = ((p.nextH s b d).toReal : EReal) := by
  obtain ⟨u, hu⟩ := logistic_real (p.gate s b ⟨384 + d.val, by omega⟩)
  obtain ⟨v, hv⟩ := tanh_real (p.nextC s b d)
  have : p.nextH s b d = ((u * v : ℝ) : EReal) := by
    rw [Problem.nextH, hu, hv, EReal.coe_mul]
  rw [this, EReal.toReal_coe]

/-- A finite sum of real numbers, taken among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product of two real rows is the real product. -/
theorem dot_coe {n : ℕ} (u v : Fin n → EReal) (hu : ∀ k, u k = ((u k).toReal : EReal))
    (hv : ∀ k, v k = ((v k).toReal : EReal)) :
    ∑ k, u k * v k = ((∑ k, (u k).toReal * (v k).toReal : ℝ) : EReal) := by
  rw [coe_sum]
  refine Finset.sum_congr rfl fun k _ => ?_
  rw [EReal.coe_mul, ← hu, ← hv]

/-- A score: minus infinity with weight zero, or a real number with its exponential as weight. -/
def Scored (e : EReal) (w : ℝ) : Prop := (e = ⊥ ∧ w = 0) ∨ ∃ r : ℝ, e = (r : EReal) ∧ w = Real.exp r

/-- A score is not plus infinity. -/
theorem Scored.ne_top {e : EReal} {w : ℝ} (h : Scored e w) : e ≠ ⊤ := by
  rcases h with ⟨h, _⟩ | ⟨r, h, _⟩ <;> simp [h]

/-- The exponential of a score less a real number is the weight times a factor. -/
theorem Scored.exp_sub {e : EReal} {w : ℝ} (h : Scored e w) (M : ℝ) :
    Ideal.exp (e - (M : EReal)) = ((Real.exp (-M) * w : ℝ) : EReal) := by
  rcases h with ⟨rfl, rfl⟩ | ⟨r, rfl, rfl⟩
  · rw [EReal.bot_sub, mul_zero]; rfl
  · rw [← EReal.coe_sub, ← Real.exp_add, neg_add_eq_sub]; rfl

/-- A maximum of scores is not plus infinity. -/
theorem fold_max_ne_top {ι : Type*} (s : Finset ι) (e : ι → EReal) (h : ∀ i, e i ≠ ⊤) :
    Finset.fold max ⊥ e s ≠ ⊤ := by
  classical
  induction s using Finset.induction_on with
  | empty => simp
  | insert a s ha ih =>
    rw [Finset.fold_insert ha]
    rcases max_choice (e a) (Finset.fold max ⊥ e s) with h' | h' <;> rw [h']
    · exact h a
    · exact ih

/-- A real number with two folds of scores taken into the maximum stays a real number. -/
theorem max_real {n : ℕ} (M : ℝ) (e0 e1 : Fin n → EReal) (h0 : ∀ i, e0 i ≠ ⊤) (h1 : ∀ i, e1 i ≠ ⊤) :
    ∃ M' : ℝ, max (max (M : EReal) (Finset.fold max ⊥ e0 Finset.univ)) (Finset.fold max ⊥ e1 Finset.univ) = (M' : EReal) := by
  set y := max (max (M : EReal) (Finset.fold max ⊥ e0 Finset.univ)) (Finset.fold max ⊥ e1 Finset.univ) with hy
  have hb : y ≠ ⊥ := by
    have : (M : EReal) ≤ y := le_trans (le_max_left _ _) (le_max_left _ _)
    intro h
    rw [h] at this
    exact EReal.coe_ne_bot M (le_bot_iff.1 this)
  have ht : y ≠ ⊤ := by
    rw [hy]
    rcases max_choice (max (M : EReal) (Finset.fold max ⊥ e0 Finset.univ)) (Finset.fold max ⊥ e1 Finset.univ) with h' | h' <;> rw [h']
    · rcases max_choice (M : EReal) (Finset.fold max ⊥ e0 Finset.univ) with h'' | h'' <;> rw [h'']
      · exact EReal.coe_ne_top M
      · exact fold_max_ne_top _ _ h0
    · exact fold_max_ne_top _ _ h1
  exact ⟨y.toReal, (EReal.coe_toReal ht hb).symm⟩

/-- One block of an online sum: the sum so far, moved from the old maximum to the new one, with the block's terms added
under the new maximum, is the longer sum under the new maximum. -/
theorem online {n : ℕ} (M M' S : ℝ) (e0 e1 : Fin n → EReal) (w0 w1 : Fin n → ℝ) (v0 v1 : Fin n → ℝ)
    (h0 : ∀ i, Scored (e0 i) (w0 i)) (h1 : ∀ i, Scored (e1 i) (w1 i)) :
    ((Real.exp (-M) * S : ℝ) : EReal) * Ideal.exp ((M : EReal) - (M' : EReal)) +
        ((∑ i, Ideal.exp (e0 i - (M' : EReal)) * (v0 i : EReal)) + ∑ i, Ideal.exp (e1 i - (M' : EReal)) * (v1 i : EReal)) =
      ((Real.exp (-M') * (S + ((∑ i, w0 i * v0 i) + ∑ i, w1 i * v1 i)) : ℝ) : EReal) := by
  have k0 : ∀ i, Ideal.exp (e0 i - (M' : EReal)) * (v0 i : EReal) = ((Real.exp (-M') * (w0 i * v0 i) : ℝ) : EReal) := by
    intro i; rw [(h0 i).exp_sub, ← EReal.coe_mul, mul_assoc]
  have k1 : ∀ i, Ideal.exp (e1 i - (M' : EReal)) * (v1 i : EReal) = ((Real.exp (-M') * (w1 i * v1 i) : ℝ) : EReal) := by
    intro i; rw [(h1 i).exp_sub, ← EReal.coe_mul, mul_assoc]
  have k2 : Ideal.exp ((M : EReal) - (M' : EReal)) = ((Real.exp (M - M') : ℝ) : EReal) := by
    rw [← EReal.coe_sub]; rfl
  simp only [k0, k1, k2, ← coe_sum, ← EReal.coe_add, ← EReal.coe_mul, ← Finset.mul_sum]
  congr 1
  have : Real.exp (-M) * Real.exp (M - M') = Real.exp (-M') := by
    rw [← Real.exp_add]; congr 1; ring
  linear_combination S * this

/-- The quotient a kernel takes at the end: the factor of the running maximum cancels, and an empty segment gives zero. -/
theorem quotient (M S R : ℝ) (hS : 0 ≤ S) (hR : S = 0 → R = 0) :
    Ideal.div ((Real.exp (-M) * R : ℝ) : EReal)
        (if 0 < ((Real.exp (-M) * S : ℝ) : EReal) then ((Real.exp (-M) * S : ℝ) : EReal) else 1) =
      ((R / S : ℝ) : EReal) := by
  have hM := Real.exp_pos (-M)
  rcases hS.eq_or_lt with h | h
  · subst h
    rw [hR rfl, mul_zero]
    simp only [EReal.coe_zero, lt_irrefl, if_false, div_zero]
    rw [show (1 : EReal) = ((1 : ℝ) : EReal) from rfl, Ideal.div_coe one_ne_zero]
    simp
  · have hp : 0 < Real.exp (-M) * S := mul_pos hM h
    rw [if_pos (by exact_mod_cast hp), Ideal.div_coe hp.ne', ← EReal.coe_mul]
    congr 1
    field_simp

end Cert.Set2Set
-- ==== Proof.KernelBlocks.lean ====
/-
  WHAT EACH GRID POINT IS GIVEN. Point `t` of the fifteen reads rows `20000 * (t % 5)` and on of the nodes, the same
  stretch of the segment ids (converted and cut into two halves by the host), and the weights, transposed by the host,
  with the two bias rows added.
-/
module

public import proofs.«01_k».proof.Proof.KernelCases
public import proofs.«01_k».proof.Proof.Spec

@[expose] public section

set_option maxRecDepth 16384

noncomputable section

namespace Cert.Set2Set

open Cert.KernelIdeal Cert.KernelIdeal.Gen Idealize.ShloMosaic Idealize.ShloMosaic.TcCoe Idealize.SL.Sem

variable (m : (ℓ : Loc nD τ sig) → Buf (Elt Ideal) ℓ)

/-- Where each window stands at point `t`. -/
theorem stands : ∀ t : Fin cfg0.N, win0_0.index t = ![t.val % 5, 0] ∧ win0_1.index t = ![t.val % 5, 0, 0] ∧
    win0_2.index t = ![0, 0] ∧ win0_3.index t = ![0, 0] ∧ win0_4.index t = ![0, 0] :=
  (by decide +kernel : ∀ t : Fin grid0.N, _)

/-- The node features given. -/
abbrev argX (c : Dev nD) : FVec Ideal S100000x128 .f32 := m ((c : Thread nD τ).loc main_arg0)
/-- The segment ids given. -/
abbrev argB (c : Dev nD) : IVec S100000 32 := m ((c : Thread nD τ).loc main_arg1)
/-- The first weight matrix given. -/
abbrev argWi (c : Dev nD) : FVec Ideal S512x256 .f32 := m ((c : Thread nD τ).loc main_arg2)
/-- The second weight matrix given. -/
abbrev argWh (c : Dev nD) : FVec Ideal S512x128 .f32 := m ((c : Thread nD τ).loc main_arg3)
/-- The first bias given. -/
abbrev argBi (c : Dev nD) : FVec Ideal S512 .f32 := m ((c : Thread nD τ).loc main_arg4)
/-- The second bias given. -/
abbrev argBh (c : Dev nD) : FVec Ideal S512 .f32 := m ((c : Thread nD τ).loc main_arg5)

/-- The host's converted segment ids, as the kernel is given them. -/
theorem V_ids (c : Dev nD) : (V m c main_v1 : FVec Ideal S5x2x10000 .bf16) =
    shapeCast S5x2x10000 (sitofp (F := Ideal) .bf16 (argB m c)) shapeCasts_S100000_S5x2x10000 := by
  show StableHlo.after hostOps0 _ (Proc.devRef .tc main_v1) = _
  after_results
  rfl

/-- The bias row: the host's sum of the two given. -/
theorem V_bias (c : Dev nD) : (V m c main_v3 : FVec Ideal S1x512 .f32) =
    shapeCast S1x512 (addf (argBi m c) (argBh m c)) shapeCasts_S512_S1x512 := by
  show StableHlo.after hostOps0 _ (Proc.devRef .tc main_v3) = _
  after_results
  rfl

/-- The first weight matrix, transposed. -/
theorem V_wi (c : Dev nD) : V m c main_v4 =
    transpose S256x512 [1, 0] (argWi m c) transposes_S512x256_S256x512_1_0 := by
  show StableHlo.after hostOps0 _ (Proc.devRef .tc main_v4) = _
  after_results
  try rfl

/-- The second weight matrix, transposed. -/
theorem V_wh (c : Dev nD) : V m c main_v5 =
    transpose S128x512 [1, 0] (argWh m c) transposes_S512x128_S128x512_1_0 := by
  show StableHlo.after hostOps0 _ (Proc.devRef .tc main_v5) = _
  after_results
  try rfl

/-- The block of nodes at point `t`. -/
theorem nodes_at (c : Dev nD) (t : Fin cfg0.N) (i : Fin 20000) (d : Fin 128) (n : Fin 100000) (hn : n.val = 20000 * (t.val % 5) + i.val) :
    (iblk m c 0 t : Vec Ideal S20000x128 .f32) (ix2 i d) = argX m c (ix2 n d) := by
  show V m c main_arg0 (((cfg0.win 0).blk t).view.emb (ix2 i d)) = _
  rw [V_main_arg0]
  congr 1
  funext a; apply Fin.ext
  match a with
  | ⟨0, _⟩ => show win0_0.index t (0 : Fin 2) * 20000 + 1 * i.val = n.val; rw [(stands t).1, hn]; simp; omega
  | ⟨1, _⟩ => show win0_0.index t (1 : Fin 2) * 128 + 1 * d.val = d.val; rw [(stands t).1]; simp

/-- The block of segment ids at point `t`: half `j`, place `i`. -/
theorem ids_at (c : Dev nD) (t : Fin cfg0.N) (j : Fin 2) (i : Fin 10000) (n : Fin 100000)
    (hn : n.val = 20000 * (t.val % 5) + 10000 * j.val + i.val) :
    (iblk m c 1 t : Vec Ideal S1x2x10000 .bf16) (ix3 0 j i) = (((argB m c (ix1 n)).toInt : ℝ) : EReal) := by
  show V m c main_v1 (((cfg0.win 1).blk t).view.emb (ix3 0 j i)) = _
  have e : ((cfg0.win 1).blk t).view.emb (ix3 0 j i) = ix3 (⟨t.val % 5, Nat.mod_lt _ (by decide)⟩ : Fin 5) j i := by
    funext a; apply Fin.ext
    match a with
    | ⟨0, _⟩ => show win0_1.index t (0 : Fin 3) * 1 + 1 * 0 = t.val % 5; rw [(stands t).2.1]; simp
    | ⟨1, _⟩ => show win0_1.index t (1 : Fin 3) * 2 + 1 * j.val = j.val; rw [(stands t).2.1]; simp
    | ⟨2, _⟩ => show win0_1.index t (2 : Fin 3) * 10000 + 1 * i.val = i.val; rw [(stands t).2.1]; simp
  rw [e, V_ids, shapeCast_apply _ _ _ (ix1 n)]
  · rfl
  · refine (rowMajor_val1 _).trans (Eq.trans ?_ (rowMajor_val3 _ 20000 10000 (by decide) (by decide)).symm)
    have h1 : ((ix3 (⟨t.val % 5, Nat.mod_lt _ (by decide)⟩ : Fin 5) j i : S5x2x10000.Idx) 0).val = t.val % 5 := rfl
    have h2 : ((ix3 (⟨t.val % 5, Nat.mod_lt _ (by decide)⟩ : Fin 5) j i : S5x2x10000.Idx) 1).val = j.val := rfl
    have h3 : ((ix3 (⟨t.val % 5, Nat.mod_lt _ (by decide)⟩ : Fin 5) j i : S5x2x10000.Idx) 2).val = i.val := rfl
    have h4 : ((ix1 n : S100000.Idx) 0).val = n.val := rfl
    omega

/-- The first weight matrix at any point. -/
theorem wi_at (c : Dev nD) (t : Fin cfg0.N) (k : Fin 256) (j : Fin 512) :
    (iblk m c 2 t : Vec Ideal S256x512 .f32) (ix2 k j) = argWi m c (ix2 j k) := by
  show V m c main_v4 (((cfg0.win 2).blk t).view.emb (ix2 k j)) = _
  have e : ((cfg0.win 2).blk t).view.emb (ix2 k j) = ix2 k j := by
    funext a; apply Fin.ext
    match a with
    | ⟨0, _⟩ => show win0_2.index t (0 : Fin 2) * 256 + 1 * k.val = k.val; rw [(stands t).2.2.1]; simp
    | ⟨1, _⟩ => show win0_2.index t (1 : Fin 2) * 512 + 1 * j.val = j.val; rw [(stands t).2.2.1]; simp
  rw [e, V_wi]
  pointwise

/-- The second weight matrix at any point. -/
theorem wh_at (c : Dev nD) (t : Fin cfg0.N) (k : Fin 128) (j : Fin 512) :
    (iblk m c 3 t : Vec Ideal S128x512 .f32) (ix2 k j) = argWh m c (ix2 j k) := by
  show V m c main_v5 (((cfg0.win 3).blk t).view.emb (ix2 k j)) = _
  have e : ((cfg0.win 3).blk t).view.emb (ix2 k j) = ix2 k j := by
    funext a; apply Fin.ext
    match a with
    | ⟨0, _⟩ => show win0_3.index t (0 : Fin 2) * 128 + 1 * k.val = k.val; rw [(stands t).2.2.2.1]; simp
    | ⟨1, _⟩ => show win0_3.index t (1 : Fin 2) * 512 + 1 * j.val = j.val; rw [(stands t).2.2.2.1]; simp
  rw [e, V_wh]
  pointwise

/-- The bias row at any point. -/
theorem bias_at (c : Dev nD) (t : Fin cfg0.N) (j : Fin 512) :
    (iblk m c 4 t : Vec Ideal S1x512 .f32) (ix2 0 j) =
      ((argBi m c) (ix1 j) + (argBh m c) (ix1 j) : EReal) := by
  show V m c main_v3 (((cfg0.win 4).blk t).view.emb (ix2 0 j)) = _
  have e : ((cfg0.win 4).blk t).view.emb (ix2 0 j) = ix2 0 j := by
    funext a; apply Fin.ext
    match a with
    | ⟨0, _⟩ => show win0_4.index t (0 : Fin 2) * 1 + 1 * 0 = 0; rw [(stands t).2.2.2.2]; simp
    | ⟨1, _⟩ => show win0_4.index t (1 : Fin 2) * 512 + 1 * j.val = j.val; rw [(stands t).2.2.2.2]; simp
  rw [e, V_bias]
  pointwise

end Cert.Set2Set
-- ==== Proof.KernelSteps.lean ====
/-
  ONE BLOCK OF THE KERNEL, READ. The cell's payloads are the mathematics' cell; one block of rows, folded into the running
  maximum, sum and pool, carries "the sums over the rows so far, under the common factor of the running maximum" to the
  same statement one block further; and the quotient taken at the end is the weighted mean.
-/
module

public import proofs.«01_k».proof.Proof.KernelBlocks

@[expose] public section

set_option maxRecDepth 16384

noncomputable section

namespace Cert.Set2Set

open Cert.KernelIdeal Cert.KernelIdeal.Gen Idealize.ShloMosaic Idealize.ShloMosaic.TcCoe Idealize.SL.Sem

/-- A 256-column array is a function of the coordinates. -/
def Is256 (a : Vec Ideal S64x256 .f32) (f : Fin 64 → Fin 256 → EReal) : Prop := ∀ b k, a (ix2 b k) = f b k

/-- A 128-column array is a function of the coordinates. -/
def Is128 (a : Vec Ideal S64x128 .f32) (f : Fin 64 → Fin 128 → EReal) : Prop := ∀ b k, a (ix2 b k) = f b k

/-- The weights the kernel is given, against the problem's. -/
structure Weights (p : Problem) (wi : Vec Ideal S256x512 .f32) (wh : Vec Ideal S128x512 .f32) (bi : Vec Ideal S1x512 .f32) : Prop where
  wi : ∀ k j, wi (ix2 k j) = p.wi j k
  wh : ∀ k j, wh (ix2 k j) = p.wh j k
  bi : ∀ j, bi (ix2 0 j) = p.bias j

/-- The gates. -/
theorem gate_apply {p : Problem} {s : St} {qs : Vec Ideal S64x256 .f32} {h : Vec Ideal S64x128 .f32}
    {wi : Vec Ideal S256x512 .f32} {wh : Vec Ideal S128x512 .f32} {bi : Vec Ideal S1x512 .f32}
    (W : Weights p wi wh bi) (hq : Is256 qs s.q) (hh : Is128 h s.h) (b : Fin 64) (j : Fin 512) :
    k0_pay7 qs wi h wh bi (ix2 b j) = p.gate s b j := by
  pointwise [k0_pay7]
  unfold Problem.gate
  simp only [hq _ _, hh _ _, W.wi, W.wh, W.bi]

/-- The cell rows. -/
theorem newC_apply {p : Problem} {s : St} {qs : Vec Ideal S64x256 .f32} {h cc : Vec Ideal S64x128 .f32}
    {wi : Vec Ideal S256x512 .f32} {wh : Vec Ideal S128x512 .f32} {bi : Vec Ideal S1x512 .f32}
    (W : Weights p wi wh bi) (hq : Is256 qs s.q) (hh : Is128 h s.h) (hc : Is128 cc s.c) :
    Is128 (newC qs h cc wi wh bi) (p.nextC s) := by
  intro b d
  dsimp only [newC]
  pointwise [k0_pay8]
  unfold Problem.nextC
  simp only [gate_apply W hq hh, hc _ _]

/-- The hidden rows. -/
theorem newH_apply {p : Problem} {s : St} {qs : Vec Ideal S64x256 .f32} {h cc : Vec Ideal S64x128 .f32}
    {wi : Vec Ideal S256x512 .f32} {wh : Vec Ideal S128x512 .f32} {bi : Vec Ideal S1x512 .f32}
    (W : Weights p wi wh bi) (hq : Is256 qs s.q) (hh : Is128 h s.h) (hc : Is128 cc s.c) :
    Is128 (newH qs h cc wi wh bi) (p.nextH s) := by
  intro b d
  have e := newC_apply W hq hh hc
  dsimp only [newC] at e
  dsimp only [newH]
  pointwise [k0_pay10]
  unfold Problem.nextH
  simp only [gate_apply W hq hh]
  rw [← e b d]

/-- A segment id, converted, is a row's number exactly when the words agree. -/
theorem id_eq_iff (g : BitVec 32) (b : Fin 64) :
    ((g.toInt : ℝ) : EReal) = FloatOps.sitofp (F := Ideal) FTy.bf16 (BitVec.ofNat 32 b.val) ↔ g = BitVec.ofNat 32 b.val := by
  show ((g.toInt : ℝ) : EReal) = (((BitVec.ofNat 32 b.val).toInt : ℝ) : EReal) ↔ _
  rw [EReal.coe_eq_coe_iff, Int.cast_inj, BitVec.toInt_inj]

/-- The starting value of the kernel's row maxima is minus infinity. -/
theorem bf16_bot : Ideal.ofBits FTy.bf16 65408#16 = ⊥ := by
  simp [Ideal.ofBits, Ideal.ieee]

/-- The mask constant stands for minus infinity. -/
theorem mask_bot : Named.named (F := Ideal) (φ := .bf16) κ "mask" 61770#16 = (⊥ : EReal) :=
  IdealRules.named_const.ideal_named_scalar (φ := .bf16) _ _ _ _ rfl

/-- The masked score of one half block. -/
theorem score_apply (h : Vec Ideal S64x128 .f32) (xc : Vec Ideal S10000x128 .f32) (gc : Vec Ideal S1x1x10000 .bf16) (b : Fin 64) (j : Fin 10000) :
    k0_pay19 h xc gc (ix2 b j) =
      if gc (ix3 0 0 j) = FloatOps.sitofp (F := Ideal) FTy.bf16 (BitVec.ofNat 32 b.val) then ∑ d, h (ix2 b d) * xc (ix2 j d) else ⊥ := by
  pointwise [k0_pay19, k0_pay15, k0_pay16, k0_pay17]
  rw [mask_bot]

/-- The masked score of the other half block. -/
theorem score_apply' (h : Vec Ideal S64x128 .f32) (xc : Vec Ideal S10000x128 .f32) (gc : Vec Ideal S1x1x10000 .bf16) (b : Fin 64) (j : Fin 10000) :
    k0_pay20 h xc gc (ix2 b j) =
      if gc (ix3 0 0 j) = FloatOps.sitofp (F := Ideal) FTy.bf16 (BitVec.ofNat 32 b.val) then ∑ d, h (ix2 b d) * xc (ix2 j d) else ⊥ := by
  pointwise [k0_pay20, k0_pay15, k0_pay16, k0_pay18]
  rw [mask_bot]

/-- A masked product of a node with a query is a score whose weight is the problem's. -/
theorem scored (p : Problem) (hx : ∀ n d, p.x n d = ((p.x n d).toReal : EReal)) (q : Fin 64 → Fin 128 → EReal)
    (hq : ∀ b d, q b d = ((q b d).toReal : EReal)) (b : Fin 64) (n : Fin 100000) (e : EReal)
    (he : e = if (((p.seg n).toInt : ℝ) : EReal) = FloatOps.sitofp (F := Ideal) FTy.bf16 (BitVec.ofNat 32 b.val) then ∑ d, q b d * p.x n d else ⊥) :
    Scored e (p.weight q b n) := by
  rw [he]
  simp only [id_eq_iff, Problem.weight]
  by_cases h : p.seg n = BitVec.ofNat 32 b.val
  · rw [if_pos h, if_pos h]
    refine Or.inr ⟨_, ?_, rfl⟩
    rw [← dot_coe (p.x n) (q b) (hx n) (hq b)]
    exact Finset.sum_congr rfl fun _ _ => mul_comm _ _
  · rw [if_neg h, if_neg h]
    exact Or.inl ⟨rfl, rfl⟩

/-- The sum over the first `k` blocks of 20000 nodes. -/
def part (f : Fin 100000 → ℝ) (k : ℕ) : ℝ := ∑ n ∈ Finset.range (20000 * k), if h : n < 100000 then f ⟨n, h⟩ else 0

/-- Before the first block the sum is zero. -/
theorem part_zero (f : Fin 100000 → ℝ) : part f 0 = 0 := by simp [part]

/-- All five blocks are all nodes. -/
theorem part_five (f : Fin 100000 → ℝ) : part f 5 = ∑ n, f n := by
  unfold part
  rw [show 20000 * 5 = 100000 from rfl, Finset.sum_range]
  refine Finset.sum_congr rfl fun n _ => ?_
  rw [dif_pos n.isLt]

/-- One block more, as its two halves. -/
theorem part_succ (f : Fin 100000 → ℝ) (k : ℕ) (hk : k < 5) :
    part f (k + 1) = part f k + ((∑ i : Fin 10000, f ⟨20000 * k + i.val, by omega⟩) + ∑ i : Fin 10000, f ⟨20000 * k + 10000 + i.val, by omega⟩) := by
  unfold part
  rw [show 20000 * (k + 1) = 20000 * k + 10000 + 10000 by ring, Finset.sum_range_add, Finset.sum_range_add, add_assoc,
    Finset.sum_range (n := 10000), Finset.sum_range (n := 10000)]
  congr 2
  · refine Finset.sum_congr rfl fun i _ => ?_
    rw [dif_pos]
  · refine Finset.sum_congr rfl fun i _ => ?_
    rw [dif_pos]

/-- The carried maximum, sum and pool after `k` blocks: under some real maximum `M` per row, the sums over the first `k`
blocks times `exp (-M)`. -/
def Online (p : Problem) (q : Fin 64 → Fin 128 → EReal) (k : ℕ) (mm ss : Vec Ideal S64x1 .f32) (rr : Vec Ideal S64x128 .f32) : Prop :=
  ∀ b : Fin 64, ∃ M : ℝ, mm (ix2 b 0) = (M : EReal) ∧ ss (ix2 b 0) = ((Real.exp (-M) * part (p.weight q b) k : ℝ) : EReal) ∧
    ∀ d : Fin 128, rr (ix2 b d) = ((Real.exp (-M) * part (fun n => p.weight q b n * (p.x n d).toReal) k : ℝ) : EReal)

/-- Before the first block: everything zero. -/
theorem online_zero (p : Problem) (q : Fin 64 → Fin 128 → EReal) : Online p q 0 (k0_pay12 (F := Ideal)) (k0_pay13 (F := Ideal)) (k0_pay14 (F := Ideal)) := by
  intro b
  refine ⟨0, ?_, ?_, fun d => ?_⟩
  · pointwise [k0_pay12]
    rfl
  · rw [part_zero, mul_zero]
    pointwise [k0_pay13]
    rfl
  · rw [part_zero, mul_zero]
    pointwise [k0_pay14]
    rfl

/-- The block of nodes and ids that stands at place `k` of a step. -/
structure Block (p : Problem) (k : ℕ) (x : Vec Ideal S20000x128 .f32) (g : Vec Ideal S1x2x10000 .bf16) : Prop where
  x : ∀ (i : Fin 20000) (d : Fin 128) (n : Fin 100000), n.val = 20000 * k + i.val → x (ix2 i d) = p.x n d
  g : ∀ (j : Fin 2) (i : Fin 10000) (n : Fin 100000), n.val = 20000 * k + 10000 * j.val + i.val →
    g (ix3 0 j i) = (((p.seg n).toInt : ℝ) : EReal)

/-- The first half of a block of nodes, read at an index. -/
theorem rows0_apply (x : Vec Ideal S20000x128 .f32) (i : Fin 10000) (d : Fin 128) : rows0 x (ix2 i d) = x (ix2 ⟨i.val, by omega⟩ d) := by
  dsimp only [rows0]
  pointwise

/-- The second half of a block of nodes, read at an index. -/
theorem rows1_apply (x : Vec Ideal S20000x128 .f32) (i : Fin 10000) (d : Fin 128) : rows1 x (ix2 i d) = x (ix2 ⟨10000 + i.val, by omega⟩ d) := by
  dsimp only [rows1]
  pointwise

/-- The first half of a block of ids, read at an index. -/
theorem ids0_apply (g : Vec Ideal S1x2x10000 .bf16) (i : Fin 10000) : ids0 g (ix3 0 0 i) = g (ix3 0 0 i) := by
  dsimp only [ids0]
  pointwise

/-- The second half of a block of ids, read at an index. -/
theorem ids1_apply (g : Vec Ideal S1x2x10000 .bf16) (i : Fin 10000) : ids1 g (ix3 0 0 i) = g (ix3 0 1 i) := by
  dsimp only [ids1]
  pointwise

/-- The new running maximum. -/
theorem accM_apply (h : Vec Ideal S64x128 .f32) (x : Vec Ideal S20000x128 .f32) (g : Vec Ideal S1x2x10000 .bf16) (mm : Vec Ideal S64x1 .f32) (b : Fin 64) :
    accM h x g mm (ix2 b 0) =
      max (max (mm (ix2 b 0)) (Finset.fold max ⊥ (fun i => k0_pay19 h (rows0 x) (ids0 g) (ix2 b i)) Finset.univ))
        (Finset.fold max ⊥ (fun i => k0_pay20 h (rows1 x) (ids1 g) (ix2 b i)) Finset.univ) := by
  rw [← bf16_bot]
  dsimp only [accM, maxHalf, topHalf]
  pointwise [k0_pay30, k0_pay23, k0_pay21, k0_pay22]

/-- The new sum, at the new maximum. -/
theorem accS_apply (h : Vec Ideal S64x128 .f32) (x : Vec Ideal S20000x128 .f32) (g : Vec Ideal S1x2x10000 .bf16) (mm ss : Vec Ideal S64x1 .f32) (b : Fin 64) :
    accS h x g mm ss (ix2 b 0) =
      ss (ix2 b 0) * Ideal.exp (mm (ix2 b 0) - accM h x g mm (ix2 b 0)) +
        ((∑ i, Ideal.exp (k0_pay19 h (rows0 x) (ids0 g) (ix2 b i) - accM h x g mm (ix2 b 0))) +
          ∑ i, Ideal.exp (k0_pay20 h (rows1 x) (ids1 g) (ix2 b i) - accM h x g mm (ix2 b 0))) := by
  dsimp only [accS, accM]
  generalize maxHalf h x g mm = u
  generalize topHalf h x g = v
  generalize k0_pay19 h (rows0 x) (ids0 g) = e0
  generalize k0_pay20 h (rows1 x) (ids1 g) = e1
  pointwise [k0_pay30, k0_pay29, k0_pay26, k0_pay27, k0_pay25, k0_pay24, k0_pay23]

/-- The new pool, at the new maximum. -/
theorem accR_apply (h : Vec Ideal S64x128 .f32) (x : Vec Ideal S20000x128 .f32) (g : Vec Ideal S1x2x10000 .bf16) (mm : Vec Ideal S64x1 .f32) (rr : Vec Ideal S64x128 .f32) (b : Fin 64) (d : Fin 128) :
    accR h x g mm rr (ix2 b d) =
      rr (ix2 b d) * Ideal.exp (mm (ix2 b 0) - accM h x g mm (ix2 b 0)) +
        ((∑ i, Ideal.exp (k0_pay19 h (rows0 x) (ids0 g) (ix2 b i) - accM h x g mm (ix2 b 0)) * rows0 x (ix2 i d)) +
          ∑ i, Ideal.exp (k0_pay20 h (rows1 x) (ids1 g) (ix2 b i) - accM h x g mm (ix2 b 0)) * rows1 x (ix2 i d)) := by
  dsimp only [accR, accM]
  generalize maxHalf h x g mm = u
  generalize topHalf h x g = v
  generalize k0_pay19 h (rows0 x) (ids0 g) = e0
  generalize k0_pay20 h (rows1 x) (ids1 g) = e1
  generalize rows0 x = y0
  generalize rows1 x = y1
  pointwise [k0_pay30, k0_pay28, k0_pay26, k0_pay27, k0_pay25, k0_pay24, k0_pay23, k0_pay17, k0_pay18]

/-- ONE BLOCK: from the sums over `k` blocks to those over `k + 1`. -/
theorem online_succ (p : Problem) (hx : ∀ n d, p.x n d = ((p.x n d).toReal : EReal)) (q : Fin 64 → Fin 128 → EReal)
    (hq : ∀ b d, q b d = ((q b d).toReal : EReal)) (k : ℕ) (hk : k < 5) {h : Vec Ideal S64x128 .f32} (hh : Is128 h q)
    {x : Vec Ideal S20000x128 .f32} {g : Vec Ideal S1x2x10000 .bf16} (B : Block p k x g) {mm ss : Vec Ideal S64x1 .f32}
    {rr : Vec Ideal S64x128 .f32} (O : Online p q k mm ss rr) :
    Online p q (k + 1) (accM h x g mm) (accS h x g mm ss) (accR h x g mm rr) := by
  intro b
  obtain ⟨M, hM, hS, hR⟩ := O b
  have y0 : ∀ (i : Fin 10000) (d : Fin 128), rows0 x (ix2 i d) = p.x ⟨20000 * k + i.val, by omega⟩ d := fun i d => by
    rw [rows0_apply]; exact B.x _ _ _ rfl
  have y1 : ∀ (i : Fin 10000) (d : Fin 128), rows1 x (ix2 i d) = p.x ⟨20000 * k + 10000 + i.val, by omega⟩ d := fun i d => by
    rw [rows1_apply]; exact B.x _ _ _ (Nat.add_assoc _ _ _)
  have s0 : ∀ i : Fin 10000, Scored (k0_pay19 h (rows0 x) (ids0 g) (ix2 b i)) (p.weight q b ⟨20000 * k + i.val, by omega⟩) := fun i => by
    refine scored p hx q hq b _ _ ?_
    rw [score_apply, ids0_apply, B.g 0 i ⟨20000 * k + i.val, by omega⟩ rfl]
    simp only [y0, hh _ _]
  have s1 : ∀ i : Fin 10000, Scored (k0_pay20 h (rows1 x) (ids1 g) (ix2 b i)) (p.weight q b ⟨20000 * k + 10000 + i.val, by omega⟩) := fun i => by
    refine scored p hx q hq b _ _ ?_
    rw [score_apply', ids1_apply, B.g 1 i ⟨20000 * k + 10000 + i.val, by omega⟩ rfl]
    simp only [y1, hh _ _]
  obtain ⟨M', hM'⟩ := max_real M _ _ (fun i => (s0 i).ne_top) (fun i => (s1 i).ne_top)
  have hm : accM h x g mm (ix2 b 0) = (M' : EReal) := by rw [accM_apply, hM]; exact hM'
  refine ⟨M', hm, ?_, fun d => ?_⟩
  · have e := online M M' (part (p.weight q b) k) _ _ _ _ (fun _ => 1) (fun _ => 1) s0 s1
    simp only [EReal.coe_one, mul_one] at e
    rw [accS_apply, hm, hM, hS, e, part_succ _ _ hk]
  · have e := online M M' (part (fun n => p.weight q b n * (p.x n d).toReal) k) _ _ _ _
      (fun i => (p.x ⟨20000 * k + i.val, by omega⟩ d).toReal) (fun i => (p.x ⟨20000 * k + 10000 + i.val, by omega⟩ d).toReal) s0 s1
    simp only [← hx] at e
    rw [accR_apply, hm, hM, hR d, part_succ _ _ hk]
    simp only [y0, y1]
    exact e

/-- A weight is not negative. -/
theorem weight_nonneg (p : Problem) (q : Fin 64 → Fin 128 → EReal) (b : Fin 64) (n : Fin 100000) : 0 ≤ p.weight q b n := by
  unfold Problem.weight
  split
  · exact (Real.exp_pos _).le
  · exact le_rfl

/-- Where all weights sum to zero, each is zero. -/
theorem weight_zero (p : Problem) (q : Fin 64 → Fin 128 → EReal) (b : Fin 64) (h : ∑ n, p.weight q b n = 0) (n : Fin 100000) :
    p.weight q b n = 0 :=
  (Finset.sum_eq_zero_iff_of_nonneg fun n _ => weight_nonneg p q b n).1 h n (Finset.mem_univ n)

/-- The quotient after all five blocks is the weighted mean. -/
theorem pool_apply (p : Problem) (q : Fin 64 → Fin 128 → EReal) {mm ss : Vec Ideal S64x1 .f32} {rr : Vec Ideal S64x128 .f32}
    (O : Online p q 5 mm ss rr) : Is128 (k0_pay1 ss rr) (p.pool q) := by
  intro b d
  obtain ⟨M, -, hS, hR⟩ := O b
  pointwise [k0_pay1]
  have e := quotient M (part (p.weight q b) 5) (part (fun n => p.weight q b n * (p.x n d).toReal) 5)
    (by rw [part_five]; exact Finset.sum_nonneg fun n _ => weight_nonneg p q b n)
    (by
      rw [part_five, part_five]
      intro h
      exact Finset.sum_eq_zero fun n _ => by rw [weight_zero p q b h n, zero_mul])
  rw [hS, hR d, e, part_five, part_five]
  rfl

/-- The query with the mean beside it, as stored. -/
theorem side_apply {u v : Vec Ideal S64x128 .f32} {f f' : Fin 64 → Fin 128 → EReal} (hu : Is128 u f) (hv : Is128 v f') :
    Is256 (side u v) (Problem.beside f f') := by
  intro b k
  unfold side Problem.beside
  by_cases h : k.val < 128
  · rw [dif_pos h, dif_pos (show ((ix2 b k : S64x256.Idx) 1).val < 128 from h)]
    exact hu b ⟨k.val, h⟩
  · rw [dif_neg h, dif_neg (show ¬ ((ix2 b k : S64x256.Idx) 1).val < 128 from h)]
    exact hv b ⟨k.val - 128, by omega⟩

end Cert.Set2Set
-- ==== Proof.KernelValue.lean ====
/-
  WHAT THE KERNEL LEAVES IN ITS RESULT. By induction over the fifteen grid points: after block `k` of step `s` the kernel
  carries the hidden and cell rows of step `s`, and that step's sums over the first `k + 1` blocks under a common factor;
  so the last point writes the row that the mathematics reads after three steps.
-/
module

public import proofs.«01_k».proof.Proof.KernelSteps

@[expose] public section

set_option maxRecDepth 16384

noncomputable section

namespace Cert.Set2Set

open Cert.KernelIdeal Cert.KernelIdeal.Gen Cert.KernelIdeal.Value Idealize.ShloMosaic Idealize.ShloMosaic.TcCoe Idealize.SL.Sem

variable (m : (ℓ : Loc nD τ sig) → Buf (Elt Ideal) ℓ)

/-- The problem a device is given. -/
def prob (c : Dev nD) : Problem where
  x n d := argX m c (ix2 n d)
  seg n := argB m c (ix1 n)
  wi j k := argWi m c (ix2 j k)
  wh j k := argWh m c (ix2 j k)
  bias j := argBi m c (ix1 j) + argBh m c (ix1 j)

/-- What is carried from point to point: the result's buffer, the hidden rows, the cell rows, and the running maximum,
sum and pool. -/
abbrev Carried : Type := Vec Ideal S64x256 .f32 × Vec Ideal S64x128 .f32 × Vec Ideal S64x128 .f32 × Vec Ideal S64x1 .f32 × Vec Ideal S64x1 .f32 × Vec Ideal S64x128 .f32

/-- What holds of the carried arrays after point `t`. -/
structure Holds (p : Problem) (t : ℕ) (acc : Carried) : Prop where
  h : Is128 acc.2.1 (p.after (t / 5 + 1)).h
  c : Is128 acc.2.2.1 (p.after (t / 5 + 1)).c
  o : Online p (p.after (t / 5 + 1)).h (t % 5 + 1) acc.2.2.2.1 acc.2.2.2.2.1 acc.2.2.2.2.2

/-- Every grid point is given the problem's weights. -/
theorem weights_at (c : Dev nD) (t : Fin cfg0.N) : Weights (prob m c) (iblk m c 2 t) (iblk m c 3 t) (iblk m c 4 t) :=
  ⟨wi_at m c t, wh_at m c t, bias_at m c t⟩

/-- Grid point `t` is given block `t % 5` of the nodes and of the ids. -/
theorem block_at (c : Dev nD) (t : Fin cfg0.N) : Block (prob m c) (t.val % 5) (iblk m c 0 t) (iblk m c 1 t) :=
  ⟨fun i d n hn => nodes_at m c t i d n hn, fun j i n hn => ids_at m c t j i n hn⟩

/-- The node features are numbers. -/
def FiniteX (p : Problem) : Prop := ∀ n d, p.x n d = ((p.x n d).toReal : EReal)

/-- The hidden rows after a step are real numbers. -/
theorem after_h_real (p : Problem) (k : ℕ) (b : Fin 64) (d : Fin 128) :
    (p.after (k + 1)).h b d = (((p.after (k + 1)).h b d).toReal : EReal) := nextH_real p _ b d

/-- The first point: the cell from zeros, and the first block. -/
theorem holds_first (c : Dev nD) (hx : FiniteX (prob m c)) (t : Fin cfg0.N) (ht : t.val = 0) (acc : Carried) :
    Holds (prob m c) 0 (stAt0 m c t.val t.isLt acc) := by
  have z2 : Is256 (k0_pay2 (F := Ideal)) ((prob m c).after 0).q := fun b k => by pointwise [k0_pay2]; rfl
  have z3 : Is128 (k0_pay3 (F := Ideal)) ((prob m c).after 0).h := fun b k => by pointwise [k0_pay3]; rfl
  have z4 : Is128 (k0_pay4 (F := Ideal)) ((prob m c).after 0).c := fun b k => by pointwise [k0_pay4]; rfl
  have W := weights_at m c t
  have B := block_at m c t
  rw [ht] at B
  have hh := newH_apply W z2 z3 z4
  rw [stAt0_A m c t acc (by omega) (by omega) (by omega) (by omega), atA_h, atA_c, atA_m, atA_s, atA_r]
  exact ⟨hh, newC_apply W z2 z3 z4,
    online_succ _ hx _ (after_h_real _ 0) 0 (by decide) hh B (online_zero _ _)⟩

/-- A point inside a step: one block more. -/
theorem holds_inside (c : Dev nD) (hx : FiniteX (prob m c)) (t : Fin cfg0.N) (h0 : ¬ t.val % 5 = 0) (h3 : ¬ t.val % 15 = 14)
    (acc : Carried) (H : Holds (prob m c) (t.val - 1) acc) : Holds (prob m c) t.val (stAt0 m c t.val t.isLt acc) := by
  obtain ⟨Hh, Hc, Ho⟩ := H
  have e1 : (t.val - 1) / 5 = t.val / 5 := by omega
  have e2 : (t.val - 1) % 5 + 1 = t.val % 5 := by omega
  rw [e1] at Hh Hc Ho
  rw [e2] at Ho
  have B := block_at m c t
  rw [stAt0_B m c t acc h0 h3, atB_h, atB_c, atB_m, atB_s, atB_r]
  exact ⟨Hh, Hc, online_succ _ hx _ (after_h_real _ _) _ (Nat.mod_lt _ (by decide)) Hh B Ho⟩

/-- The same quotient, where a later step takes it. -/
theorem pool_apply' (p : Problem) (q : Fin 64 → Fin 128 → EReal) {mm ss : Vec Ideal S64x1 .f32} {rr : Vec Ideal S64x128 .f32}
    (O : Online p q 5 mm ss rr) : Is128 (k0_pay5 ss rr) (p.pool q) := by
  intro b d
  have e := pool_apply p q O b d
  rw [← e]
  pointwise [k0_pay5, k0_pay1]

/-- The first point of a later step: the finished pool beside the query, the cell, and the first block. -/
theorem holds_later (c : Dev nD) (hx : FiniteX (prob m c)) (t : Fin cfg0.N) (h0 : t.val % 5 = 0) (h5 : 5 ≤ t.val)
    (acc : Carried) (H : Holds (prob m c) (t.val - 1) acc) : Holds (prob m c) t.val (stAt0 m c t.val t.isLt acc) := by
  obtain ⟨Hh, Hc, Ho⟩ := H
  obtain ⟨s, hs⟩ : ∃ s, t.val / 5 = s + 1 := ⟨t.val / 5 - 1, by omega⟩
  have e1 : (t.val - 1) / 5 + 1 = s + 1 := by omega
  have e2 : (t.val - 1) % 5 + 1 = 5 := by omega
  rw [e1] at Hh Hc Ho
  rw [e2] at Ho
  have W := weights_at m c t
  have B := block_at m c t
  rw [h0] at B
  have hq : Is256 (side acc.2.1 (k0_pay5 acc.2.2.2.2.1 acc.2.2.2.2.2)) ((prob m c).after (s + 1)).q :=
    side_apply Hh (pool_apply' _ _ Ho)
  have hh : Is128 (newH (side acc.2.1 (k0_pay5 acc.2.2.2.2.1 acc.2.2.2.2.2)) acc.2.1 acc.2.2.1 (iblk m c 2 t) (iblk m c 3 t) (iblk m c 4 t))
      ((prob m c).after (s + 1 + 1)).h := newH_apply W hq Hh Hc
  have hc : Is128 (newC (side acc.2.1 (k0_pay5 acc.2.2.2.2.1 acc.2.2.2.2.2)) acc.2.1 acc.2.2.1 (iblk m c 2 t) (iblk m c 3 t) (iblk m c 4 t))
      ((prob m c).after (s + 1 + 1)).c := newC_apply W hq Hh Hc
  rw [stAt0_C m c t acc h0 (by omega) h5 (by omega), atC_h, atC_c, atC_m, atC_s, atC_r]
  refine ⟨?_, ?_, ?_⟩
  · rw [hs]; dsimp only; exact hh
  · rw [hs]; dsimp only; exact hc
  · rw [hs]; dsimp only; rw [h0]
    exact online_succ _ hx _ (after_h_real _ _) 0 (by decide) hh B (online_zero _ _)

/-- The last point writes the row read after three steps. -/
theorem last (c : Dev nD) (hx : FiniteX (prob m c)) (t : Fin cfg0.N) (ht : t.val = 14) (acc : Carried)
    (H : Holds (prob m c) 13 acc) : Is256 (stAt0 m c t.val t.isLt acc).1 ((prob m c).after 3).q := by
  obtain ⟨Hh, Hc, Ho⟩ := H
  have B := block_at m c t
  rw [ht] at B
  rw [stAt0_D m c t acc (by omega) (by omega), atD_out]
  exact side_apply Hh (pool_apply _ _ (online_succ _ hx _ (after_h_real _ 2) 4 (by decide) Hh B Ho))

/-- After every point but the last. -/
theorem holds (c : Dev nD) (hx : FiniteX (prob m c)) : ∀ (n : ℕ) (h : 0 + n < cfg0.N), n < 14 →
    Holds (prob m c) n (Pipeline.accAt (fun n h => stAt0 m c n h junk0) (stAt0 m c) 0 n h)
  | 0, h, _ => holds_first m c hx ⟨0, h⟩ rfl junk0
  | n + 1, h, hn => by
    have ih := holds c hx n (Nat.lt_of_succ_lt h) (by omega)
    rw [Pipeline.accAt_succ]
    have e : 0 + (n + 1) = n + 1 := Nat.zero_add _
    have key : ∀ (k : ℕ) (hk : k < cfg0.N), k = n + 1 → ∀ acc : Carried, Holds (prob m c) n acc →
        Holds (prob m c) (n + 1) (stAt0 m c k hk acc) := by
      intro k hk hkn acc hacc
      subst hkn
      by_cases h0 : (n + 1) % 5 = 0
      · exact holds_later m c hx ⟨n + 1, hk⟩ h0 (by show 5 ≤ n + 1; omega) acc hacc
      · exact holds_inside m c hx ⟨n + 1, hk⟩ h0 (by show ¬ (n + 1) % 15 = 14; omega) acc hacc
    exact key _ h e _ ih

/-- THE KERNEL'S RESULT is the row read after three steps. -/
theorem kernel_result (c : Dev nD) (hx : FiniteX (prob m c)) :
    Is256 (G5 m c : Vec Ideal S64x256 .f32) ((prob m c).after 3).q := by
  rw [G5_last m c, Pipeline.accAt_succ]
  have h14 : 0 + (13 + 1) < cfg0.N := lt_of_lt_of_eq (by decide) N_0.symm
  exact last m c hx ⟨0 + (13 + 1), h14⟩ rfl _ (holds m c hx 13 _ (by decide))

end Cert.Set2Set
-- ==== Proof.RefIndex.lean ====
/-
  WHERE THE REFERENCE'S INDEXED OPERATIONS READ AND WRITE. A segment sum adds an update to the row that its segment id
  names, and drops it when there is no such row; a lookup at a node's segment reads that segment's row.
-/
module

public import proofs.«01_k».proof.Proof.KernelValue
public import proofs.«01_k».proof.Proof.Gen.ReferenceIdeal.Run
public import Idealize.ShloMosaic.Lib.Routing.Ops
public import Idealize.ShloMosaic.Lib.Routing.OpsPair

@[expose] public section

set_option maxRecDepth 16384

noncomputable section

namespace Cert.Set2Set

open Cert.ReferenceIdeal Cert.ReferenceIdeal.Gen Idealize.ShloMosaic Idealize.ShloMosaic.TcCoe Idealize.SL.Sem

/-- A small row number, read as a signed word. -/
theorem toInt_row (b : Fin 64) : (BitVec.ofNat 32 b.val).toInt = (b.val : Int) :=
  StableHlo.Predicate.toInt_ofNat_small _ (by omega)

/-- A word read signed is a row number exactly when it is that row's word. -/
theorem toInt_eq_row (g : BitVec 32) (b : Fin 64) : g.toInt = (b.val : Int) ↔ g = BitVec.ofNat 32 b.val := by
  rw [← toInt_row b, BitVec.toInt_inj]

/-- Update `n` of the segment sum of a vector lands in row `b` exactly when node `n`'s id is `b`. -/
theorem lands_vec (idx : IVec S100000x1 32) (n : Fin 100000) (b : Fin 64) :
    scatter_S64_S100000x1_S100000_n_0_0_1.resultIdx? (ix1 n) idx = some (ix1 b) ↔ (idx (ix2 n 0)) = BitVec.ofNat 32 b.val := by
  rw [← toInt_eq_row]
  have hw : scatter_S64_S100000x1_S100000_n_0_0_1.window (ix1 n) 0 = 0 := rfl
  have hs : scatter_S64_S100000x1_S100000_n_0_0_1.start (ix1 n) idx 0 = (idx (ix2 n 0)).toInt := by
    unfold ScatterDims.start
    rw [dif_pos (by decide)]
    congr 2
    funext a
    match a with
    | ⟨0, _⟩ => rfl
    | ⟨1, _⟩ => rfl
  refine (Routing.resultIdx?_ix1 (N := 64) scatter_S64_S100000x1_S100000_n_0_0_1 (ix1 n) idx b).trans ?_
  rw [hw, hs]
  simp

/-- Update `(n, y)` of the segment sum of rows lands at `(b, d)` exactly when node `n`'s id is `b` and `y` is `d`. -/
theorem lands_mat (idx : IVec S100000x1 32) (n : Fin 100000) (y : Fin 128) (b : Fin 64) (d : Fin 128) :
    scatter_S64x128_S100000x1_S100000x128_1_0_0_1.resultIdx? (ix2 n y) idx = some (ix2 b d) ↔
      (idx (ix2 n 0)) = BitVec.ofNat 32 b.val ∧ y = d := by
  rw [← toInt_eq_row]
  have hw0 : scatter_S64x128_S100000x1_S100000x128_1_0_0_1.window (ix2 n y) 0 = 0 := rfl
  have hw1 : scatter_S64x128_S100000x1_S100000x128_1_0_0_1.window (ix2 n y) 1 = y.val := rfl
  have hs0 : scatter_S64x128_S100000x1_S100000x128_1_0_0_1.start (ix2 n y) idx 0 = (idx (ix2 n 0)).toInt := by
    unfold ScatterDims.start
    rw [dif_pos (by decide)]
    congr 2
    funext a
    match a with
    | ⟨0, _⟩ => rfl
    | ⟨1, _⟩ => rfl
  have hs1 : scatter_S64x128_S100000x1_S100000x128_1_0_0_1.start (ix2 n y) idx 1 = 0 := rfl
  refine (Routing.resultIdx?_ix2 (R := 64) (C := 128) scatter_S64x128_S100000x1_S100000x128_1_0_0_1 (ix2 n y) idx b d).trans ?_
  rw [hw0, hw1, hs0, hs1, Fin.ext_iff]
  simp

/-- A lookup in a vector of rows, at a node of row `b`. -/
theorem gather_vec {α : Type} (v : S64.Idx → α) (idx : IVec S100000x1 32) (n : Fin 100000) (b : Fin 64)
    (h : idx (ix2 n 0) = BitVec.ofNat 32 b.val) :
    Host.gather gather_S64_S100000x1_S100000_n_0_n_n_0_1_1 v idx (ix1 n) = v (ix1 b) := by
  unfold Host.gather
  congr 1
  funext a
  apply Fin.ext
  match a with
  | ⟨0, _⟩ =>
    have hs : gather_S64_S100000x1_S100000_n_0_n_n_0_1_1.start (ix1 n) idx 0 = b.val := by
      unfold GatherDims.start
      rw [dif_pos (by decide)]
      have e : gather_S64_S100000x1_S100000_n_0_n_n_0_1_1.siIdx (ix1 n) ⟨0, by decide⟩ = ix2 n 0 := by
        funext a
        match a with
        | ⟨0, _⟩ => rfl
        | ⟨1, _⟩ => rfl
      have e' := toInt_row b
      rw [← h, ← e] at e'
      show min (idx (gather_S64_S100000x1_S100000_n_0_n_n_0_1_1.siIdx (ix1 n) ⟨0, by decide⟩)).toInt.toNat (64 - 1) = b.val
      rw [e']
      omega
    show gather_S64_S100000x1_S100000_n_0_n_n_0_1_1.start (ix1 n) idx 0 + 0 + 0 = b.val
    simp only [hs, Nat.add_zero]

/-- A lookup of a row, at a node of row `b`. -/
theorem gather_mat {α : Type} (v : S64x128.Idx → α) (idx : IVec S100000x1 32) (n : Fin 100000) (d : Fin 128) (b : Fin 64)
    (h : idx (ix2 n 0) = BitVec.ofNat 32 b.val) :
    Host.gather gather_S64x128_S100000x1_S100000x128_1_0_n_n_0_1_1128 v idx (ix2 n d) = v (ix2 b d) :=
  Routing.gather_row (nb := 64) (B := 128) (n := 100000) gather_S64x128_S100000x1_S100000x128_1_0_n_n_0_1_1128 rfl rfl rfl rfl rfl v idx n d b h (by decide)

end Cert.Set2Set
-- ==== Proof.RefSteps.lean ====
/-
  THE REFERENCE'S STEP, NAMED AND READ. The reference program runs the same step three times over. Each piece of a step is
  named here as a function of the arrays it takes, in the reference's own operations, and read at an index.
-/
module

public import proofs.«01_k».proof.Proof.RefIndex

@[expose] public section

set_option maxRecDepth 16384

noncomputable section

namespace Cert.Set2Set

open Cert.ReferenceIdeal Cert.ReferenceIdeal.Gen Idealize.ShloMosaic Idealize.ShloMosaic.TcCoe Idealize.SL.Sem

section Terms

variable {F : FTy → Type} [FloatOps F]

/-- The gates. -/
def rGate (q : FVec F S64x256 .f32) (h : FVec F S64x128 .f32) (wi : FVec F S512x256 .f32) (wh : FVec F S512x128 .f32) (bi bh : FVec F S512 .f32) :
    FVec F S64x512 .f32 :=
  addf (addf (addf (Host.dotGeneral dot_S64x256_S256x512_S64x512_1_0_0_1_n_n none q (transpose S256x512 [1, 0] wi transposes_S512x256_S256x512_1_0)) (broadcastInDim S64x512 ![0, 1] bcast_S1x512_S64x512_0_1 (broadcastInDim S1x512 ![1] bcast_S512_S1x512_1 bi))) (Host.dotGeneral dot_S64x128_S128x512_S64x512_1_0_0_1_n_n none h (transpose S128x512 [1, 0] wh transposes_S512x128_S128x512_1_0))) (broadcastInDim S64x512 ![0, 1] bcast_S1x512_S64x512_0_1 (broadcastInDim S1x512 ![1] bcast_S512_S1x512_1 bh))

/-- The logistic function, as `1 / (1 + exp (-x))`. -/
def rSig (x : FVec F S64x128 .f32) : FVec F S64x128 .f32 :=
  Host.divf (broadcastInDim S64x128 ![] bcast_S_S64x128 (constant S_ .f32 0x3F800000#32)) (addf (broadcastInDim S64x128 ![] bcast_S_S64x128 (constant S_ .f32 0x3F800000#32)) (Host.exp (Host.negf x)))

/-- The cell rows, of the gates and the cell rows before. -/
def rC (g : FVec F S64x512 .f32) (cc : FVec F S64x128 .f32) : FVec F S64x128 .f32 :=
  addf (mulf (rSig (extractStridedSlice S64x128 ![0, 128] g slices_S64x512_S64x128_0_128)) cc) (mulf (rSig (extractStridedSlice S64x128 ![0, 0] g slices_S64x512_S64x128_0_0)) (Host.tanh (extractStridedSlice S64x128 ![0, 256] g slices_S64x512_S64x128_0_256)))

/-- The hidden rows, of the gates and the new cell rows. -/
def rH (g : FVec F S64x512 .f32) (cc : FVec F S64x128 .f32) : FVec F S64x128 .f32 :=
  mulf (rSig (extractStridedSlice S64x128 ![0, 384] g slices_S64x512_S64x128_0_384)) (Host.tanh cc)

/-- The ids as lookups take them: a negative one counted from the end. -/
def rIdx (g : IVec S100000 32) : IVec S100000x1 32 :=
  broadcastInDim S100000x1 ![0] bcast_S100000_S100000x1_0 (select (cmpi .slt g (broadcastInDim S100000 ![] bcast_S_S100000 (constantI S_ 32 0#32))) (addi g (broadcastInDim S100000 ![] bcast_S_S100000 (constantI S_ 32 64#32))) g)

/-- The ids as segment sums take them. -/
def rCol (g : IVec S100000 32) : IVec S100000x1 32 := broadcastInDim S100000x1 ![0] bcast_S100000_S100000x1_0 g

/-- Which node belongs to which row. -/
def rMem (g : IVec S100000 32) : IVec S64x100000 1 :=
  cmpi .eq (broadcastInDim S64x100000 ![0, 1] bcast_S1x100000_S64x100000_0_1 (broadcastInDim S1x100000 ![1] bcast_S100000_S1x100000_1 g)) (broadcastInDim S64x100000 ![0, 1] bcast_S64x1_S64x100000_0_1 (broadcastInDim S64x1 ![0] bcast_S64_S64x1_0 (iotaInDim S64 32 0)))

/-- Each node's product with its segment's query. -/
def rE (x : FVec F S100000x128 .f32) (g : IVec S100000 32) (h : FVec F S64x128 .f32) : FVec F S100000 .f32 :=
  Host.reduceAdd (mulf x (Host.gather gather_S64x128_S100000x1_S100000x128_1_0_n_n_0_1_1128 h (rIdx g))) (constant S_ .f32 0x00000000#32) reducesTo_S100000x128_S100000_d1 h_S_

/-- Each segment's largest score. -/
def rMax (g : IVec S100000 32) (e : FVec F S100000 .f32) : FVec F S64 .f32 :=
  Host.reduce FloatOps.maximumf (select (rMem g) (broadcastInDim S64x100000 ![0, 1] bcast_S1x100000_S64x100000_0_1 (broadcastInDim S1x100000 ![1] bcast_S100000_S1x100000_1 e)) (broadcastInDim S64x100000 ![] bcast_S_S64x100000 (id (constant S_ .f32 0xFF800000#32)))) (constant S_ .f32 0xFF800000#32) reducesTo_S64x100000_S64_d1 h_S_

/-- Each node's exponential, less its segment's largest score. -/
def rEx (g : IVec S100000 32) (e : FVec F S100000 .f32) : FVec F S100000 .f32 :=
  Host.exp (subf e (Host.gather gather_S64_S100000x1_S100000_n_0_n_n_0_1_1 (rMax g e) (rIdx g)))

/-- Each segment's sum of exponentials. -/
def rSum (g : IVec S100000 32) (ex : FVec F S100000 .f32) : FVec F S64 .f32 :=
  Host.scatterAdd scatter_S64_S100000x1_S100000_n_0_0_1 (broadcastInDim S64 ![] bcast_S_S64 (constant S_ .f32 0x00000000#32)) (rCol g) ex

/-- The attention-weighted sum of each segment's nodes. -/
def rPool (x : FVec F S100000x128 .f32) (g : IVec S100000 32) (ex : FVec F S100000 .f32) : FVec F S64x128 .f32 :=
  Host.scatterAdd scatter_S64x128_S100000x1_S100000x128_1_0_0_1 (broadcastInDim S64x128 ![] bcast_S_S64x128 (constant S_ .f32 0x00000000#32)) (rCol g) (mulf (broadcastInDim S100000x128 ![0, 1] bcast_S100000x1_S100000x128_0_1 (broadcastInDim S100000x1 ![0] bcast_S100000_S100000x1_0 (Host.divf ex (Host.gather gather_S64_S100000x1_S100000_n_0_n_n_0_1_1 (rSum g ex) (rIdx g))))) x)

/-- The query with the pool beside it. -/
def rQ (h r : FVec F S64x128 .f32) : FVec F S64x256 .f32 :=
  concatenate S64x256 1 [⟨S64x128, h⟩, ⟨S64x128, r⟩] concatenates_S64x128_S64x128_S64x256_d1

end Terms

/-- A segment sum of a vector, started at zero, is the sum over the nodes of the segment. -/
theorem rSum_apply (g : IVec S100000 32) (ex : FVec Ideal S100000 .f32) (b : Fin 64) :
    rSum g ex (ix1 b) = ∑ n : Fin 100000, if g (ix1 n) = BitVec.ofNat 32 b.val then ex (ix1 n) else 0 := by
  have z : (broadcastInDim S64 ![] bcast_S_S64 (constant (F := Ideal) S_ .f32 0x00000000#32)) (ix1 b) = (0 : EReal) := by pointwise
  have c : ∀ n : Fin 100000, rCol g (ix2 n 0) = g (ix1 n) := fun n => by pointwise [rCol]
  show Ideal.hostScatterAdd scatter_S64_S100000x1_S100000_n_0_0_1 _ (rCol g) ex (ix1 b) = _
  unfold Ideal.hostScatterAdd
  rw [z, zero_add, Finset.sum_filter]
  refine Fintype.sum_equiv ⟨fun i => i 0, fun n => ix1 n, fun i => (ValueIdx.eq_ix1 i).symm, fun _ => rfl⟩ _ _ fun i => ?_
  obtain ⟨n, rfl⟩ : ∃ n : Fin 100000, i = ix1 n := ⟨i 0, ValueIdx.eq_ix1 i⟩
  have l := lands_vec (rCol g) n b
  rw [c n] at l
  exact if_congr l rfl rfl

/-- A segment sum of rows, started at zero, is the sum over the nodes of the segment, column by column. -/
theorem segRows_apply (g : IVec S100000 32) (u : FVec Ideal S100000x128 .f32) (b : Fin 64) (d : Fin 128) :
    (Host.scatterAdd scatter_S64x128_S100000x1_S100000x128_1_0_0_1 (broadcastInDim S64x128 ![] bcast_S_S64x128 (constant S_ .f32 0x00000000#32)) (rCol g) u : FVec Ideal S64x128 .f32) (ix2 b d) =
      ∑ n : Fin 100000, if g (ix1 n) = BitVec.ofNat 32 b.val then u (ix2 n d) else 0 := by
  have z : (broadcastInDim S64x128 ![] bcast_S_S64x128 (constant (F := Ideal) S_ .f32 0x00000000#32)) (ix2 b d) = (0 : EReal) := by pointwise
  have c : ∀ n : Fin 100000, rCol g (ix2 n 0) = g (ix1 n) := fun n => by pointwise [rCol]
  show Ideal.hostScatterAdd scatter_S64x128_S100000x1_S100000x128_1_0_0_1 _ (rCol g) u (ix2 b d) = _
  unfold Ideal.hostScatterAdd
  rw [z, zero_add, Finset.sum_filter, ValueIdx.sum_idx2]
  refine Finset.sum_congr rfl fun n _ => ?_
  have e : ∀ y : Fin 128, (if scatter_S64x128_S100000x1_S100000x128_1_0_0_1.resultIdx? (ix2 n y) (rCol g) = some (ix2 b d) then u (ix2 n y) else 0) =
      if y = d then (if g (ix1 n) = BitVec.ofNat 32 b.val then u (ix2 n d) else 0) else 0 := by
    intro y
    have l := lands_mat (rCol g) n y b d
    rw [c n] at l
    rw [if_congr l rfl rfl]
    by_cases hy : y = d
    · subst hy; simp
    · simp [hy]
  refine (Finset.sum_congr rfl fun y _ => e y).trans ?_
  rw [Finset.sum_ite_eq' Finset.univ d, if_pos (Finset.mem_univ d)]

/-- The data the reference is given, against the problem's. -/
structure Given (p : Problem) (x : FVec Ideal S100000x128 .f32) (g : IVec S100000 32) (wi : FVec Ideal S512x256 .f32)
    (wh : FVec Ideal S512x128 .f32) (bi bh : FVec Ideal S512 .f32) : Prop where
  x : ∀ n d, x (ix2 n d) = p.x n d
  g : ∀ n, g (ix1 n) = p.seg n
  wi : ∀ j k, wi (ix2 j k) = p.wi j k
  wh : ∀ j k, wh (ix2 j k) = p.wh j k
  bias : ∀ j, bi (ix1 j) + bh (ix1 j) = p.bias j

section Step

variable {p : Problem} {s : St} {x : FVec Ideal S100000x128 .f32} {g : IVec S100000 32} {wi : FVec Ideal S512x256 .f32}
  {wh : FVec Ideal S512x128 .f32} {bi bh : FVec Ideal S512 .f32}

/-- The gates. -/
theorem rGate_apply (D : Given p x g wi wh bi bh) {q : FVec Ideal S64x256 .f32} {h : FVec Ideal S64x128 .f32}
    (hq : Is256 q s.q) (hh : Is128 h s.h) (b : Fin 64) (j : Fin 512) :
    rGate q h wi wh bi bh (ix2 b j) = p.gate s b j := by
  pointwise [rGate]
  rw [add_right_comm (∑ k, q (ix2 b k) * wi (ix2 j k)), add_assoc _ (bi (ix1 j)), D.bias]
  unfold Problem.gate
  simp only [hq _ _, hh _ _, D.wi, D.wh]

/-- The expanded logistic function. -/
theorem rSig_apply (a : FVec Ideal S64x128 .f32) (b : Fin 64) (d : Fin 128) : rSig a (ix2 b d) = Ideal.logistic (a (ix2 b d)) := by
  pointwise [rSig]
  rfl

/-- The cell rows. -/
theorem rC_apply {G : FVec Ideal S64x512 .f32} (hG : ∀ b j, G (ix2 b j) = p.gate s b j) {cc : FVec Ideal S64x128 .f32}
    (hc : Is128 cc s.c) : Is128 (rC G cc) (p.nextC s) := by
  intro b d
  pointwise [rC]
  rw [rSig_apply, rSig_apply]
  pointwise
  unfold Problem.nextC
  simp only [hG, hc _ _]

/-- The hidden rows. -/
theorem rH_apply {G : FVec Ideal S64x512 .f32} (hG : ∀ b j, G (ix2 b j) = p.gate s b j) {cc : FVec Ideal S64x128 .f32}
    (hc : Is128 cc (p.nextC s)) : Is128 (rH G cc) (p.nextH s) := by
  intro b d
  pointwise [rH]
  rw [rSig_apply]
  pointwise
  unfold Problem.nextH
  simp only [hG, hc _ _]

/-- The query with the pool beside it. -/
theorem rQ_apply {u v : FVec Ideal S64x128 .f32} {f f' : Fin 64 → Fin 128 → EReal} (hu : Is128 u f) (hv : Is128 v f') :
    Is256 (rQ u v) (Problem.beside f f') := by
  intro b d
  pointwise [rQ]
  simp only [Problem.beside, hu _ _, hv _ _]

/-- At a node of row `b`, the id a lookup takes is `b`. -/
theorem rIdx_apply {n : Fin 100000} {b : Fin 64} (h : g (ix1 n) = BitVec.ofNat 32 b.val) :
    rIdx g (ix2 n 0) = BitVec.ofNat 32 b.val := by
  pointwise [rIdx]
  rw [h]
  refine Routing.wrap_of_lt _ _ ?_
  rw [BitVec.toNat_ofNat]
  omega

/-- The score of a node of row `b`: a real number. -/
def score (p : Problem) (h : Fin 64 → Fin 128 → EReal) (b : Fin 64) (n : Fin 100000) : ℝ := ∑ d, (p.x n d).toReal * (h b d).toReal

/-- The product of a node of row `b` with its query is that score. -/
theorem rE_apply (D : Given p x g wi wh bi bh) (hx : FiniteX p) {h : FVec Ideal S64x128 .f32} {f : Fin 64 → Fin 128 → EReal}
    (hh : Is128 h f) (hf : ∀ b d, f b d = ((f b d).toReal : EReal)) {b : Fin 64} {n : Fin 100000}
    (hn : p.seg n = BitVec.ofNat 32 b.val) : rE x g h (ix1 n) = ((score p f b n : ℝ) : EReal) := by
  pointwise [rE]
  simp only [gather_mat h (rIdx g) n _ b (rIdx_apply ((D.g n).trans hn)), hh _ _, D.x]
  exact dot_coe _ _ (hx n) (hf b)

/-- The largest score of a row that has a node is a real number. -/
theorem rMax_apply {e : FVec Ideal S100000 .f32} {b : Fin 64} {r : Fin 100000 → ℝ}
    (he : ∀ n, g (ix1 n) = BitVec.ofNat 32 b.val → e (ix1 n) = ((r n : ℝ) : EReal)) {n0 : Fin 100000}
    (h0 : g (ix1 n0) = BitVec.ofNat 32 b.val) : ∃ M : ℝ, rMax g e (ix1 b) = (M : EReal) := by
  pointwise [rMax, rMem]
  have hbot : Ideal.ofBits FTy.f32 4286578688#32 = ⊥ := by simp [Ideal.ofBits, Ideal.ieee]
  have hs : ∀ n : Fin 100000, Scalar.select (IntOp.cmpi CmpIPredicate.eq (g (ix1 n)) (BitVec.ofNat 32 b.val)) (e (ix1 n)) (id (constant (F := Ideal) S_ FTy.f32 4286578688#32) ix0) =
      if g (ix1 n) = BitVec.ofNat 32 b.val then ((r n : ℝ) : EReal) else ⊥ := by
    intro n
    by_cases h : g (ix1 n) = BitVec.ofNat 32 b.val
    · rw [if_pos h, ← he n h]
      simp [Scalar.select, IntOp.cmpi, h]
    · rw [if_neg h]
      simp [Scalar.select, IntOp.cmpi, beq_eq_false_iff_ne.2 h, constant, hbot]
  rw [hbot]
  simp only [hs]
  have ht := fold_max_ne_top Finset.univ (fun n : Fin 100000 => if g (ix1 n) = BitVec.ofNat 32 b.val then ((r n : ℝ) : EReal) else ⊥)
    (fun n => by split <;> simp)
  have hb : ((r n0 : ℝ) : EReal) ≤ Finset.fold max ⊥ (fun n : Fin 100000 => if g (ix1 n) = BitVec.ofNat 32 b.val then ((r n : ℝ) : EReal) else ⊥) Finset.univ := by
    rw [Finset.le_fold_max]
    exact Or.inr ⟨n0, Finset.mem_univ _, by rw [if_pos h0]⟩
  refine ⟨_, (EReal.coe_toReal ht fun h => ?_).symm⟩
  rw [h] at hb
  exact EReal.coe_ne_bot _ (le_bot_iff.1 hb)

/-- The exponentials of a row that has a node are the weights, up to one common factor. -/
theorem rEx_apply (D : Given p x g wi wh bi bh) (hx : FiniteX p) {h : FVec Ideal S64x128 .f32} {f : Fin 64 → Fin 128 → EReal}
    (hh : Is128 h f) (hf : ∀ b d, f b d = ((f b d).toReal : EReal)) {b : Fin 64} {n0 : Fin 100000}
    (h0 : p.seg n0 = BitVec.ofNat 32 b.val) :
    ∃ M : ℝ, ∀ n, p.seg n = BitVec.ofNat 32 b.val →
      rEx g (rE x g h) (ix1 n) = ((Real.exp (-M) * p.weight f b n : ℝ) : EReal) := by
  obtain ⟨M, hM⟩ := rMax_apply (g := g) (e := rE x g h) (b := b) (r := score p f b)
    (fun n hn => rE_apply D hx hh hf ((D.g n).symm.trans hn)) ((D.g n0).trans h0)
  refine ⟨M, fun n hn => ?_⟩
  pointwise [rEx]
  rw [gather_vec _ (rIdx g) n b (rIdx_apply ((D.g n).trans hn)), hM, rE_apply D hx hh hf hn]
  have : Scored ((score p f b n : ℝ) : EReal) (p.weight f b n) := Or.inr ⟨_, rfl, by rw [Problem.weight, if_pos hn]; rfl⟩
  exact this.exp_sub M

/-- THE POOL. Whatever the common factor, the quotient is the weighted mean; an empty row is zero. -/
theorem rPool_apply (D : Given p x g wi wh bi bh) (hx : FiniteX p) {h : FVec Ideal S64x128 .f32} {f : Fin 64 → Fin 128 → EReal}
    (hh : Is128 h f) (hf : ∀ b d, f b d = ((f b d).toReal : EReal)) :
    Is128 (rPool x g (rEx g (rE x g h))) (p.pool f) := by
  intro b d
  unfold rPool
  rw [segRows_apply]
  by_cases hne : ∃ n0, p.seg n0 = BitVec.ofNat 32 b.val
  · obtain ⟨n0, h0⟩ := hne
    obtain ⟨M, hM⟩ := rEx_apply D hx hh hf h0
    have hE := Real.exp_pos (-M)
    have hpos : 0 < ∑ n, p.weight f b n := by
      refine Finset.sum_pos' (fun n _ => weight_nonneg p f b n) ⟨n0, Finset.mem_univ _, ?_⟩
      rw [Problem.weight, if_pos h0]
      exact Real.exp_pos _
    have hsum : rSum g (rEx g (rE x g h)) (ix1 b) = ((Real.exp (-M) * ∑ n, p.weight f b n : ℝ) : EReal) := by
      rw [rSum_apply, Finset.mul_sum, coe_sum]
      refine Finset.sum_congr rfl fun n _ => ?_
      rw [D.g]
      by_cases hn : p.seg n = BitVec.ofNat 32 b.val
      · rw [if_pos hn, hM n hn]
      · rw [if_neg hn, Problem.weight, if_neg hn, mul_zero]; rfl
    unfold Problem.pool
    rw [Finset.sum_div, coe_sum]
    refine Finset.sum_congr rfl fun n _ => ?_
    rw [D.g]
    by_cases hn : p.seg n = BitVec.ofNat 32 b.val
    · rw [if_pos hn]
      pointwise
      rw [gather_vec _ (rIdx g) n b (rIdx_apply ((D.g n).trans hn)), hsum, hM n hn, D.x, hx n d,
        Ideal.div_coe (mul_pos hE hpos).ne', ← EReal.coe_mul, ← EReal.coe_mul, EReal.toReal_coe]
      refine congrArg Real.toEReal ?_
      generalize (∑ n, p.weight f b n) = W at hpos
      generalize p.weight f b n = w
      generalize (p.x n d).toReal = v
      have := hE.ne'
      have := hpos.ne'
      field_simp
    · rw [if_neg hn, Problem.weight, if_neg hn, zero_mul, zero_div]; rfl
  · have hno : ∀ n, ¬ p.seg n = BitVec.ofNat 32 b.val := fun n hn => hne ⟨n, hn⟩
    simp only [D.g, hno, if_false, Finset.sum_const_zero, Problem.pool, Problem.weight, zero_mul, zero_div]
    rfl

end Step

end Cert.Set2Set
-- ==== Proof.RefValue.lean ====
/-
  WHAT THE REFERENCE LEAVES IN ITS RESULT. Its composed term is the step function taken three times from zeros, so its
  result is the row that the mathematics reads after three steps.
-/
module

public import proofs.«01_k».proof.Proof.RefSteps

@[expose] public section

set_option maxRecDepth 16384

noncomputable section

namespace Cert.Set2Set

open Cert.ReferenceIdeal Cert.ReferenceIdeal.Gen Cert.ReferenceIdeal.Value Idealize.ShloMosaic Idealize.ShloMosaic.TcCoe Idealize.SL.Sem

/-- What holds after a step: the hidden rows, the cell rows, and the exponentials the pool is made of. -/
structure After (p : Problem) (n : ℕ) (x : FVec Ideal S100000x128 .f32) (g : IVec S100000 32) (h c : FVec Ideal S64x128 .f32)
    (ex : FVec Ideal S100000 .f32) : Prop where
  rows : Is128 h (p.after n).h
  cell : Is128 c (p.after n).c
  read : Is256 (rQ h (rPool x g ex)) (p.after n).q

section

variable {p : Problem} {x : FVec Ideal S100000x128 .f32} {g : IVec S100000 32} {wi : FVec Ideal S512x256 .f32}
  {wh : FVec Ideal S512x128 .f32} {bi bh : FVec Ideal S512 .f32}

/-- One step, from any arrays that are the mathematics' state. -/
theorem after_step (D : Given p x g wi wh bi bh) (hx : FiniteX p) (n : ℕ) {q : FVec Ideal S64x256 .f32} {h c h' c' : FVec Ideal S64x128 .f32}
    {G : FVec Ideal S64x512 .f32} {e ex : FVec Ideal S100000 .f32}
    (hq : Is256 q (p.after n).q) (hh : Is128 h (p.after n).h) (hc : Is128 c (p.after n).c)
    (eG : G = rGate q h wi wh bi bh) (ec : c' = rC G c) (eh : h' = rH G c') (ee : e = rE x g h') (eex : ex = rEx g e) :
    After p (n + 1) x g h' c' ex := by
  subst eex ee eh ec eG
  have hG := rGate_apply D hq hh
  have kc := rC_apply hG hc
  have kh := rH_apply hG kc
  exact ⟨kh, kc, rQ_apply kh (rPool_apply D hx kh (nextH_real p _))⟩

end

section

variable (V0 : Valuation τ sig (Elt Ideal))

/-- The node features given. -/
abbrev refX : FVec Ideal S100000x128 .f32 := V0 (Proc.devRef .tc main_arg0)
/-- The segment ids given. -/
abbrev refB : IVec S100000 32 := V0 (Proc.devRef .tc main_arg1)
/-- The first weight matrix given. -/
abbrev refWi : FVec Ideal S512x256 .f32 := V0 (Proc.devRef .tc main_arg2)
/-- The second weight matrix given. -/
abbrev refWh : FVec Ideal S512x128 .f32 := V0 (Proc.devRef .tc main_arg3)
/-- The first bias given. -/
abbrev refBi : FVec Ideal S512 .f32 := V0 (Proc.devRef .tc main_arg4)
/-- The second bias given. -/
abbrev refBh : FVec Ideal S512 .f32 := V0 (Proc.devRef .tc main_arg5)

/-- The 256-column zeros the run starts from. -/
abbrev zero256 : FVec Ideal S64x256 .f32 := broadcastInDim S64x256 ![] bcast_S_S64x256 (constant S_ .f32 0x00000000#32)
/-- The 128-column zeros the run starts from. -/
abbrev zero128 : FVec Ideal S64x128 .f32 := broadcastInDim S64x128 ![] bcast_S_S64x128 (constant S_ .f32 0x00000000#32)

variable {p : Problem}

/-- The first step. -/
theorem ref_one (D : Given p (refX V0) (refB V0) (refWi V0) (refWh V0) (refBi V0) (refBh V0)) (hx : FiniteX p) :
    After p 1 (refX V0) (refB V0) (res_main_v47 V0) (res_main_v45 V0) (res_main_v68 V0) :=
  after_step D hx 0 (q := zero256) (h := zero128) (c := zero128) (G := res_main_v19 V0) (e := res_main_v56 V0)
    (fun b k => by pointwise; rfl) (fun b k => by pointwise; rfl) (fun b k => by pointwise; rfl) rfl rfl rfl rfl rfl

/-- The second step. -/
theorem ref_two (D : Given p (refX V0) (refB V0) (refWi V0) (refWh V0) (refBi V0) (refBh V0)) (hx : FiniteX p) :
    After p 2 (refX V0) (refB V0) (res_main_v125 V0) (res_main_v123 V0) (res_main_v146 V0) :=
  have A := ref_one V0 D hx
  after_step D hx 1 (G := res_main_v97 V0) (e := res_main_v134 V0) A.read A.rows A.cell rfl rfl rfl rfl rfl

/-- The third step. -/
theorem ref_three (D : Given p (refX V0) (refB V0) (refWi V0) (refWh V0) (refBi V0) (refBh V0)) (hx : FiniteX p) :
    After p 3 (refX V0) (refB V0) (res_main_v203 V0) (rC (res_main_v175 V0) (res_main_v123 V0)) (res_main_v224 V0) :=
  have A := ref_two V0 D hx
  after_step D hx 2 (G := res_main_v175 V0) (e := res_main_v212 V0) A.read A.rows A.cell rfl rfl rfl rfl rfl

end

end Cert.Set2Set
-- ==== Proof.Equal.lean ====
/-
  THE TWO PROGRAMS AGREE. The precondition says that the node features are numbers; under it the kernel's result and the
  reference's are both the row that the mathematics reads after three steps, of arguments that agree.
-/
module

public import proofs.«01_k».proof.Defs
public import proofs.«01_k».proof.Proof.RefValue
public import Idealize.ShloMosaic.Lib.ReduceAll

@[expose] public section

set_option maxRecDepth 16384

noncomputable section

namespace Cert.Set2Set

open Idealize.ShloMosaic Idealize.ShloMosaic.TcCoe Idealize.SL.Sem

/-- The shape relations the precondition's operations take. -/
theorem preFacts : Cert.Pre_finite_x.Facts := ⟨by decide, by decide, by decide⟩

/-- An extended real whose absolute value is below plus infinity is a real number. -/
theorem real_of_abs_lt (y : EReal) (h : Ideal.cmp .olt (max y (-y)) ⊤ = 1#1) : y = (y.toReal : EReal) := by
  induction y with
  | bot => simp [Ideal.cmp] at h
  | top => simp [Ideal.cmp] at h
  | coe r => rfl

/-- The precondition read: every node feature is a real number. -/
theorem finite_of_pre [Cert.Pre_finite_x.Facts]
    (m : (ℓ : Loc Cert.KernelIdeal.nD Cert.KernelIdeal.τ Cert.KernelIdeal.sig) → Buf (Elt Ideal) ℓ)
    (h : Cert.Pre_KernelIdeal_finite_x m) (c : Dev Cert.KernelIdeal.nD) : FiniteX (prob m c) := by
  intro n d
  have e := congrFun (h c) ix0
  have a := Host.reduce_andi_all _ _ _ _ _ e (ix2 n d)
  apply real_of_abs_lt
  have ht : Ideal.ofBits FTy.f32 2139095040#32 = ⊤ := by simp [Ideal.ofBits, Ideal.ieee]
  rw [← ht]
  exact a

/-- At `Ideal`, from arguments that agree and under the precondition, the two programs end with one result. -/
theorem algebraic [Cert.Pre_finite_x.Facts] : Cert.algebraic_KernelIdeal_ReferenceIdeal_pre_finite_x := by
  intro m ρ m' ρ' hpre hagree
  refine ⟨_, Cert.KernelIdeal.Value.run (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5⟩ := hagree c
  have hx := finite_of_pre m hpre c
  have D : Given (prob m c) (refX (StableHlo.launchContents m' c)) (refB (StableHlo.launchContents m' c)) (refWi (StableHlo.launchContents m' c))
      (refWh (StableHlo.launchContents m' c)) (refBi (StableHlo.launchContents m' c)) (refBh (StableHlo.launchContents m' c)) :=
    ⟨fun n d => congrFun h0 (ix2 n d), fun n => congrFun h1 (ix1 n), fun j k => congrFun h2 (ix2 j k), fun j k => congrFun h3 (ix2 j k),
      fun j => congrArg₂ (· + ·) (congrFun h4 (ix1 j)) (congrFun h5 (ix1 j))⟩
  have R := (ref_three (StableHlo.launchContents m' c) D hx).read
  have K := kernel_result m c hx
  funext i
  rw [ValueIdx.eq_ix2 i]
  exact (R _ _).trans (K _ _).symm

end Cert.Set2Set
-- ==== Proof.lean ====
/-
  The proof of `Cert.Claim`. The kernel, its idealization and the reference all run to the end, leave their arguments as
  they were and every semaphore at zero; the idealization names the mask constant and changes nothing else; and at the
  extended reals the idealized kernel and the reference end with one result wherever the node features are numbers.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equal
public import Idealize.ShloMosaic.Adequacy
public import Idealize.ShloMosaic.Init

@[expose] public section

noncomputable section

namespace Cert.Proof

open Idealize.ShloMosaic Idealize.SL.Sem

/-- The reference runs, keeps its arguments, and has no semaphore to leave raised. -/
theorem reference_runs : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The idealized constant stands for minus infinity. -/
theorem mask_named : Cert.preserves_Kernel_KernelIdeal :=
  IdealRules.named_const.statement Cert.KernelIdeal.κ "mask" .bf16 0xF14A#16 ⊥ rfl

/-- THE CERTIFICATE: every claim stated, proved. -/
theorem claim : Cert.Claim :=
  ⟨Cert.Kernel.Gen.facts, Cert.KernelIdeal.Gen.facts, Cert.ReferenceIdeal.Gen.facts, Cert.Set2Set.preFacts,
    fun m ρ _ => Cert.Kernel.Gen.frame m ρ,
    fun m ρ _ => Cert.KernelIdeal.Gen.frame m ρ,
    fun m ρ _ => Cert.KernelIdeal.Gen.frame m ρ,
    reference_runs,
    fun m ρ _ => reference_runs m ρ trivial,
    mask_named,
    letI := Cert.Set2Set.preFacts
    Cert.Set2Set.algebraic⟩

end Cert.Proof

end
